-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_representable [hPre_representable : Cert.Pre_representable.Facts] (m : (ℓ : Loc Cert.KernelIdeal.nD Cert.KernelIdeal.τ Cert.KernelIdeal.sig) → Buf (Elt Ideal) ℓ) : Prop :=
  ∀ c : Dev Cert.KernelIdeal.nD,
    (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_representable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_representable [hPre_representable : Cert.Pre_representable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_representable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_representable [hKernelIdeal : Cert.KernelIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_representable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_representable [hReferenceIdeal : Cert.ReferenceIdeal.Facts] [hPre_representable : Cert.Pre_representable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_representable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_representable [hKernelIdeal : Cert.KernelIdeal.Facts] [hReferenceIdeal : Cert.ReferenceIdeal.Facts] [hPre_representable : Cert.Pre_representable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_representable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_representable : Cert.Pre_representable.Facts),
    quiescent_Kernel (hKernel := hKernel)
    ∧ quiescent_KernelIdeal (hKernelIdeal := hKernelIdeal)
    ∧ quiescent_KernelIdeal_pre_representable (hKernelIdeal := hKernelIdeal) (hPre_representable := hPre_representable)
    ∧ quiescent_ReferenceIdeal (hReferenceIdeal := hReferenceIdeal)
    ∧ quiescent_ReferenceIdeal_pre_representable (hReferenceIdeal := hReferenceIdeal) (hPre_representable := hPre_representable)
    ∧ preserves_Kernel_KernelIdeal
    ∧ algebraic_KernelIdeal_ReferenceIdeal_pre_representable (hKernelIdeal := hKernelIdeal) (hReferenceIdeal := hReferenceIdeal) (hPre_representable := hPre_representable)
-- ==== Pre_representable.lean ====
abbrev S8x2x1024x7168 : Shape := ⟨4, ![8, 2, 1024, 7168]⟩
abbrev S8x2x1024x224 : Shape := ⟨4, ![8, 2, 1024, 224]⟩
abbrev S7168 : Shape := ⟨1, ![7168]⟩
abbrev S2x1024x7168 : Shape := ⟨3, ![2, 1024, 7168]⟩
abbrev S254 : Shape := ⟨1, ![254]⟩
abbrev S_ : Shape := ⟨0, ![]⟩
abbrev S8x2x1024x224x1 : Shape := ⟨5, ![8, 2, 1024, 224, 1]⟩
abbrev S1x1x1x1x254 : Shape := ⟨5, ![1, 1, 1, 1, 254]⟩
abbrev S8x2x1024x224x254 : Shape := ⟨5, ![8, 2, 1024, 224, 254]⟩

class Facts : Prop where
  bcast_S_S254 : S_.BroadcastsInDim S254 (![] : Fin 0 → Fin S254.rank)
  bcast_S8x2x1024x224_S8x2x1024x224x1_0_1_2_3 : S8x2x1024x224.BroadcastsInDim S8x2x1024x224x1 (![0, 1, 2, 3] : Fin 4 → Fin S8x2x1024x224x1.rank)
  bcast_S254_S1x1x1x1x254_4 : S254.BroadcastsInDim S1x1x1x1x254 (![4] : Fin 1 → Fin S1x1x1x1x254.rank)
  bcast_S8x2x1024x224x1_S8x2x1024x224x254_0_1_2_3_4 : S8x2x1024x224x1.BroadcastsInDim S8x2x1024x224x254 (![0, 1, 2, 3, 4] : Fin 5 → Fin S8x2x1024x224x254.rank)
  bcast_S1x1x1x1x254_S8x2x1024x224x254_0_1_2_3_4 : S1x1x1x1x254.BroadcastsInDim S8x2x1024x224x254 (![0, 1, 2, 3, 4] : Fin 5 → Fin S8x2x1024x224x254.rank)
  reducesTo_S8x2x1024x224x254_S8x2x1024x224_d4 : S8x2x1024x224x254.ReducesTo [4] S8x2x1024x224
  h_S_ : 0 < S_.numel
  bcast_S_S8x2x1024x224 : S_.BroadcastsInDim S8x2x1024x224 (![] : Fin 0 → Fin S8x2x1024x224.rank)
  bcast_S_S7168 : S_.BroadcastsInDim S7168 (![] : Fin 0 → Fin S7168.rank)

variable [Facts]

def fn_part1 {F : FTy → Type} [FloatOps F] (main_v17 : IVec S8x2x1024x224 1) (main_v18 : FVec F S7168 .f32) : IVec S8x2x1024x224 1 × IVec S7168 1 :=
  let main_cst_3 : FVec F S_ .f32 := constant S_ .f32 0x7F7FFFFF#32
  let main_v19 : FVec F S7168 .f32 := broadcastInDim S7168 ![] bcast_S_S7168 main_cst_3
  let main_v20 : IVec S7168 1 := cmpf .ole main_v18 main_v19
  (main_v17, main_v20)

def fn {F : FTy → Type} [FloatOps F] (main_arg0 : FVec F S8x2x1024x7168 .fp8e4m3) (main_arg1 : FVec F S8x2x1024x224 .f32) (main_arg2 : FVec F S7168 .f32) (main_arg3 : FVec F S2x1024x7168 .bf16) (main_arg4 : FVec F S7168 .f32) : IVec S8x2x1024x224 1 × IVec S7168 1 :=
  let main_v0 : IVec S254 32 := iotaInDim S254 32 0
  let main_c : IVec S_ 32 := constantI S_ 32 126#32
  let main_v1 : IVec S254 32 := broadcastInDim S254 ![] bcast_S_S254 main_c
  let main_v2 : IVec S254 32 := subi main_v0 main_v1
  let main_cst : FVec F S_ .f32 := constant S_ .f32 0x40000000#32
  let main_v3 : FVec F S254 .f32 := broadcastInDim S254 ![] bcast_S_S254 main_cst
  let main_v4 : FVec F S254 .f32 := sitofp .f32 main_v2
  let main_v5 : FVec F S254 .f32 := Host.powf main_v3 main_v4
  let main_v6 : FVec F S8x2x1024x224x1 .f32 := broadcastInDim S8x2x1024x224x1 ![0, 1, 2, 3] bcast_S8x2x1024x224_S8x2x1024x224x1_0_1_2_3 main_arg1
  let main_v7 : FVec F S1x1x1x1x254 .f32 := broadcastInDim S1x1x1x1x254 ![4] bcast_S254_S1x1x1x1x254_4 main_v5
  let main_v8 : FVec F S8x2x1024x224x254 .f32 := broadcastInDim S8x2x1024x224x254 ![0, 1, 2, 3, 4] bcast_S8x2x1024x224x1_S8x2x1024x224x254_0_1_2_3_4 main_v6
  let main_v9 : FVec F S8x2x1024x224x254 .f32 := broadcastInDim S8x2x1024x224x254 ![0, 1, 2, 3, 4] bcast_S1x1x1x1x254_S8x2x1024x224x254_0_1_2_3_4 main_v7
  let main_v10 : IVec S8x2x1024x224x254 1 := cmpf .oeq main_v8 main_v9
  let main_c_0 : IVec S_ 1 := constantI S_ 1 0#1
  let main_v11 : IVec S8x2x1024x224 1 := (fun x v => Host.reduce IntOp.ori x v reducesTo_S8x2x1024x224x254_S8x2x1024x224_d4 h_S_) main_v10 main_c_0
  let main_cst_1 : FVec F S_ .f32 := constant S_ .f32 0x00000000#32
  let main_v12 : FVec F S8x2x1024x224 .f32 := broadcastInDim S8x2x1024x224 ![] bcast_S_S8x2x1024x224 main_cst_1
  let main_v13 : IVec S8x2x1024x224 1 := cmpf .oeq main_arg1 main_v12
  let main_v14 : IVec S8x2x1024x224 1 := ori main_v11 main_v13
  let main_cst_2 : FVec F S_ .f32 := constant S_ .f32 0x7F800000#32
  let main_v15 : FVec F S8x2x1024x224 .f32 := broadcastInDim S8x2x1024x224 ![] bcast_S_S8x2x1024x224 main_cst_2
  let main_v16 : IVec S8x2x1024x224 1 := cmpf .oeq main_arg1 main_v15
  let main_v17 : IVec S8x2x1024x224 1 := ori main_v14 main_v16
  let main_v18 : FVec F S7168 .f32 := Host.absf main_arg4
  fn_part1 (F := F) main_v17 main_v18
-- ==== Kernel.lean ====
abbrev S8x2x1024x7168 : Shape := ⟨4, ![8, 2, 1024, 7168]⟩
abbrev S8x2x1024x224 : Shape := ⟨4, ![8, 2, 1024, 224]⟩
abbrev S7168 : Shape := ⟨1, ![7168]⟩
abbrev S2x1024x7168 : Shape := ⟨3, ![2, 1024, 7168]⟩
abbrev S8x2048x7168 : Shape := ⟨3, ![8, 2048, 7168]⟩
abbrev S8x2x224x1024 : Shape := ⟨4, ![8, 2, 224, 1024]⟩
abbrev S1x7168 : Shape := ⟨2, ![1, 7168]⟩
abbrev S2048x7168 : Shape := ⟨2, ![2048, 7168]⟩
abbrev S2x224x1024 : Shape := ⟨3, ![2, 224, 1024]⟩
abbrev S8x128x7168 : Shape := ⟨3, ![8, 128, 7168]⟩
abbrev S8x1x224x128 : Shape := ⟨4, ![8, 1, 224, 128]⟩
abbrev S128x7168 : Shape := ⟨2, ![128, 7168]⟩
abbrev S1x224x128 : Shape := ⟨3, ![1, 224, 128]⟩
abbrev S16x256x256 : Shape := ⟨3, ![16, 256, 256]⟩
abbrev S4x2x128x256 : Shape := ⟨4, ![4, 2, 128, 256]⟩
abbrev S256x128 : Shape := ⟨2, ![256, 128]⟩
abbrev S256x256 : Shape := ⟨2, ![256, 256]⟩
abbrev S1x256x256 : Shape := ⟨3, ![1, 256, 256]⟩
abbrev S32x128 : Shape := ⟨2, ![32, 128]⟩
abbrev S128x128 : Shape := ⟨2, ![128, 128]⟩
abbrev S1x1x224x128 : Shape := ⟨4, ![1, 1, 224, 128]⟩
abbrev S224x128 : Shape := ⟨2, ![224, 128]⟩
abbrev S128x256 : Shape := ⟨2, ![128, 256]⟩
abbrev S16x128 : Shape := ⟨2, ![16, 128]⟩
abbrev S1x1x16x128 : Shape := ⟨4, ![1, 1, 16, 128]⟩
abbrev S1x1x128x256 : Shape := ⟨4, ![1, 1, 128, 256]⟩
abbrev S8x128 : Shape := ⟨2, ![8, 128]⟩
abbrev S1x32x128 : Shape := ⟨3, ![1, 32, 128]⟩
abbrev S1x128 : Shape := ⟨2, ![1, 128]⟩
abbrev S32 : Shape := ⟨1, ![32]⟩
abbrev S32x1 : Shape := ⟨2, ![32, 1]⟩
abbrev S128x1 : Shape := ⟨2, ![128, 1]⟩
abbrev S4x32x128 : Shape := ⟨3, ![4, 32, 128]⟩
abbrev S4x128 : Shape := ⟨2, ![4, 128]⟩
abbrev S1x4x128 : Shape := ⟨3, ![1, 4, 128]⟩
abbrev S128x128x1 : Shape := ⟨3, ![128, 128, 1]⟩

abbrev nBuf : Space → Nat
  | .hbm => 13
  | .vmem => 18
  | .smem => 0
  | _ => 0

abbrev bufTy : (tb : Table) → Fin (tcTables nBuf tb) → BufTy
  | .hbm, ⟨0, _⟩ => ⟨S8x2x1024x7168, .fp8e4m3⟩
  | .hbm, ⟨1, _⟩ => ⟨S8x2x1024x224, .f32⟩
  | .hbm, ⟨2, _⟩ => ⟨S7168, .f32⟩
  | .hbm, ⟨3, _⟩ => ⟨S2x1024x7168, .bf16⟩
  | .hbm, ⟨4, _⟩ => ⟨S7168, .f32⟩
  | .hbm, ⟨5, _⟩ => ⟨S8x2048x7168, .fp8e4m3⟩
  | .hbm, ⟨6, _⟩ => ⟨S8x2x224x1024, .f32⟩
  | .hbm, ⟨7, _⟩ => ⟨S1x7168, .f32⟩
  | .hbm, ⟨8, _⟩ => ⟨S2048x7168, .bf16⟩
  | .hbm, ⟨9, _⟩ => ⟨S1x7168, .f32⟩
  | .hbm, ⟨10, _⟩ => ⟨S2048x7168, .bf16⟩
  | .hbm, ⟨11, _⟩ => ⟨S2048x7168, .fp8e4m3⟩
  | .hbm, ⟨12, _⟩ => ⟨S2x224x1024, .f32⟩
  | .local _ .vmem, ⟨0, _⟩ => ⟨S8x128x7168, .fp8e4m3⟩
  | .local _ .vmem, ⟨1, _⟩ => ⟨S8x128x7168, .fp8e4m3⟩
  | .local _ .vmem, ⟨2, _⟩ => ⟨S8x1x224x128, .f32⟩
  | .local _ .vmem, ⟨3, _⟩ => ⟨S8x1x224x128, .f32⟩
  | .local _ .vmem, ⟨4, _⟩ => ⟨S1x7168, .f32⟩
  | .local _ .vmem, ⟨5, _⟩ => ⟨S128x7168, .bf16⟩
  | .local _ .vmem, ⟨6, _⟩ => ⟨S128x7168, .bf16⟩
  | .local _ .vmem, ⟨7, _⟩ => ⟨S1x7168, .f32⟩
  | .local _ .vmem, ⟨8, _⟩ => ⟨S128x7168, .bf16⟩
  | .local _ .vmem, ⟨9, _⟩ => ⟨S128x7168, .bf16⟩
  | .local _ .vmem, ⟨10, _⟩ => ⟨S128x7168, .fp8e4m3⟩
  | .local _ .vmem, ⟨11, _⟩ => ⟨S128x7168, .fp8e4m3⟩
  | .local _ .vmem, ⟨12, _⟩ => ⟨S1x224x128, .f32⟩
  | .local _ .vmem, ⟨13, _⟩ => ⟨S1x224x128, .f32⟩
  | .local _ .vmem, ⟨14, _⟩ => ⟨S16x256x256, .bf16⟩
  | .local _ .vmem, ⟨15, _⟩ => ⟨S4x2x128x256, .bf16⟩
  | .local _ .vmem, ⟨16, _⟩ => ⟨S128x7168, .f32⟩
  | .local _ .vmem, ⟨17, _⟩ => ⟨S256x128, .f32⟩
  | _, _ => ⟨S8x2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_5 : BitVec 32 := 0#32
  let c8_i32 : BitVec 32 := 8#32
  let v23 : BitVec 32 := Scalar.addi c0_i32_5 c8_i32
  let c1_i32_6 : BitVec 32 := 1#32
  ⟨c0_i32_5, v23, c1_i32_6⟩
def k0_off1 (k0_t1 : Fin k0_t1_loop.trips) : Fin 4 → Nat :=
  let c0_i32_5 : BitVec 32 := 0#32
  let c1_i32_6 : BitVec 32 := 1#32
  let arg13 : BitVec 32 := Scf.iv c0_i32_5 c1_i32_6 k0_t1
  let v97 : Index := Scalar.indexCast arg13
  let c0_57 : Index := 0#32
  let c0_58 : Index := 0#32
  let c0_59 : Index := 0#32
  ![v97.toNat, 0, 0, 0]
def k0_mult1 (k0_t1 : Fin k0_t1_loop.trips) : BitVec 32 :=
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  v163
def k0_off2 (k0_t1 : Fin k0_t1_loop.trips) : Fin 4 → Nat :=
  let c0_76 : Index := 0#32
  let c0_77 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v166 : Index := Scalar.indexCast v164
  let c0_78 : Index := 0#32
  ![0, 0, v166.toNat, 0]
def k0_off3 (k0_t1 : Fin k0_t1_loop.trips) : Fin 4 → Nat :=
  let c0_79 : Index := 0#32
  let c0_80 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v171 : Index := Scalar.indexCast v164
  let c128_81 : Index := 128#32
  ![0, 0, v171.toNat, 128]
def k0_off4 (k0_t1 : Fin k0_t1_loop.trips) : Fin 4 → Nat :=
  let c0_82 : Index := 0#32
  let c1 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v176 : Index := Scalar.indexCast v164
  let c0_83 : Index := 0#32
  ![0, 1, v176.toNat, 0]
def k0_off5 (k0_t1 : Fin k0_t1_loop.trips) : Fin 4 → Nat :=
  let c0_84 : Index := 0#32
  let c1_85 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v181 : Index := Scalar.indexCast v164
  let c128_86 : Index := 128#32
  ![0, 1, v181.toNat, 128]
def k0_off6 (k0_t1 : Fin k0_t1_loop.trips) : Fin 4 → Nat :=
  let c1_87 : Index := 1#32
  let c0_88 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v186 : Index := Scalar.indexCast v164
  let c0_89 : Index := 0#32
  ![1, 0, v186.toNat, 0]
def k0_off7 (k0_t1 : Fin k0_t1_loop.trips) : Fin 4 → Nat :=
  let c1_90 : Index := 1#32
  let c0_91 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v191 : Index := Scalar.indexCast v164
  let c128_92 : Index := 128#32
  ![1, 0, v191.toNat, 128]
def k0_off8 (k0_t1 : Fin k0_t1_loop.trips) : Fin 4 → Nat :=
  let c1_93 : Index := 1#32
  let c1_94 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v196 : Index := Scalar.indexCast v164
  let c0_95 : Index := 0#32
  ![1, 1, v196.toNat, 0]
def k0_off9 (k0_t1 : Fin k0_t1_loop.trips) : Fin 4 → Nat :=
  let c1_96 : Index := 1#32
  let c1_97 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v201 : Index := Scalar.indexCast v164
  let c128_98 : Index := 128#32
  ![1, 1, v201.toNat, 128]
def k0_off10 (k0_t1 : Fin k0_t1_loop.trips) : Fin 4 → Nat :=
  let c2 : Index := 2#32
  let c0_99 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v206 : Index := Scalar.indexCast v164
  let c0_100 : Index := 0#32
  ![2, 0, v206.toNat, 0]
def k0_off11 (k0_t1 : Fin k0_t1_loop.trips) : Fin 4 → Nat :=
  let c2_101 : Index := 2#32
  let c0_102 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v211 : Index := Scalar.indexCast v164
  let c128_103 : Index := 128#32
  ![2, 0, v211.toNat, 128]
def k0_off12 (k0_t1 : Fin k0_t1_loop.trips) : Fin 4 → Nat :=
  let c2_104 : Index := 2#32
  let c1_105 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v216 : Index := Scalar.indexCast v164
  let c0_106 : Index := 0#32
  ![2, 1, v216.toNat, 0]
def k0_off13 (k0_t1 : Fin k0_t1_loop.trips) : Fin 4 → Nat :=
  let c2_107 : Index := 2#32
  let c1_108 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v221 : Index := Scalar.indexCast v164
  let c128_109 : Index := 128#32
  ![2, 1, v221.toNat, 128]
def k0_off14 (k0_t1 : Fin k0_t1_loop.trips) : Fin 4 → Nat :=
  let c3 : Index := 3#32
  let c0_110 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v226 : Index := Scalar.indexCast v164
  let c0_111 : Index := 0#32
  ![3, 0, v226.toNat, 0]
def k0_off15 (k0_t1 : Fin k0_t1_loop.trips) : Fin 4 → Nat :=
  let c3_112 : Index := 3#32
  let c0_113 : Index := 0#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v231 : Index := Scalar.indexCast v164
  let c128_114 : Index := 128#32
  ![3, 0, v231.toNat, 128]
def k0_off16 (k0_t1 : Fin k0_t1_loop.trips) : Fin 4 → Nat :=
  let c3_115 : Index := 3#32
  let c1_116 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v236 : Index := Scalar.indexCast v164
  let c0_117 : Index := 0#32
  ![3, 1, v236.toNat, 0]
def k0_off17 (k0_t1 : Fin k0_t1_loop.trips) : Fin 4 → Nat :=
  let c3_118 : Index := 3#32
  let c1_119 : Index := 1#32
  let c16_i32_75 : BitVec 32 := 16#32
  let c0_i32_5 : BitVec 32 := 0#32
  let c1_i32_6 : BitVec 32 := 1#32
  let arg13 : BitVec 32 := Scf.iv c0_i32_5 c1_i32_6 k0_t1
  let v163 : BitVec 32 := Scalar.muli c16_i32_75 arg13
  let v164 : BitVec 32 := v163
  let v241 : Index := Scalar.indexCast v164
  let c128_120 : Index := 128#32
  ![3, 1, v241.toNat, 128]
@[reducible] def k0_t2_loop : Scf.Loop 32 :=
  let c0_i32_9 : BitVec 32 := 0#32
  let c28_i32 : BitVec 32 := 28#32
  let v25 : BitVec 32 := Scalar.addi c0_i32_9 c28_i32
  let c1_i32_10 : BitVec 32 := 1#32
  ⟨c0_i32_9, v25, c1_i32_10⟩
def k0_off18 (k0_t2 : Fin k0_t2_loop.trips) : Fin 4 → Nat :=
  let c0_57 : Index := 0#32
  let c0_i32_9 : BitVec 32 := 0#32
  let c1_i32_10 : BitVec 32 := 1#32
  let arg13 : BitVec 32 := Scf.iv c0_i32_9 c1_i32_10 k0_t2
  let c4_i32 : BitVec 32 := 4#32
  let v97 : BitVec 32 := Scalar.shrsi arg13 c4_i32
  let v98 : Index := Scalar.indexCast v97
  let c0_58 : Index := 0#32
  let c0_59 : Index := 0#32
  ![0, v98.toNat, 0, 0]
def k0_off19 (k0_t2 : Fin k0_t2_loop.trips) : Fin 3 → Nat :=
  let c0_i32_9 : BitVec 32 := 0#32
  let c1_i32_10 : BitVec 32 := 1#32
  let arg13 : BitVec 32 := Scf.iv c0_i32_9 c1_i32_10 k0_t2
  let c15_i32 : BitVec 32 := 15#32
  let v101 : BitVec 32 := Scalar.andi arg13 c15_i32
  let v102 : Index := Scalar.indexCast v101
  let c0_60 : Index := 0#32
  let c0_61 : Index := 0#32
  ![v102.toNat, 0, 0]
def k0_mult2 (k0_t2 : Fin k0_t2_loop.trips) : BitVec 32 :=
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let c0_i32_63 : BitVec 32 := 0#32
  let v109 : BitVec 32 := Scalar.addi v108 c0_i32_63
  v109
def k0_off20 (k0_t2 : Fin k0_t2_loop.trips) (c0_i32_63 : BitVec 32) : Fin 3 → Nat :=
  let c0_64 : Index := 0#32
  let c0_65 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v113 : Index := Scalar.indexCast v110
  ![0, 0, v113.toNat]
def k0_off21 (k0_t2 : Fin k0_t2_loop.trips) (c0_i32_63 : BitVec 32) : Fin 3 → Nat :=
  let c1 : Index := 1#32
  let c0_66 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v123 : Index := Scalar.indexCast v110
  ![1, 0, v123.toNat]
def k0_off22 (k0_t2 : Fin k0_t2_loop.trips) (c0_i32_63 : BitVec 32) : Fin 3 → Nat :=
  let c2 : Index := 2#32
  let c0_67 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v134 : Index := Scalar.indexCast v110
  ![2, 0, v134.toNat]
def k0_off23 (k0_t2 : Fin k0_t2_loop.trips) (c0_i32_63 : BitVec 32) : Fin 3 → Nat :=
  let c3 : Index := 3#32
  let c0_68 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v145 : Index := Scalar.indexCast v110
  ![3, 0, v145.toNat]
def k0_off24 (k0_t2 : Fin k0_t2_loop.trips) (c0_i32_63 : BitVec 32) : Fin 3 → Nat :=
  let c4 : Index := 4#32
  let c0_69 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v156 : Index := Scalar.indexCast v110
  ![4, 0, v156.toNat]
def k0_off25 (k0_t2 : Fin k0_t2_loop.trips) (c0_i32_63 : BitVec 32) : Fin 3 → Nat :=
  let c5 : Index := 5#32
  let c0_70 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v167 : Index := Scalar.indexCast v110
  ![5, 0, v167.toNat]
def k0_off26 (k0_t2 : Fin k0_t2_loop.trips) (c0_i32_63 : BitVec 32) : Fin 3 → Nat :=
  let c6 : Index := 6#32
  let c0_71 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v178 : Index := Scalar.indexCast v110
  ![6, 0, v178.toNat]
def k0_off27 (k0_t2 : Fin k0_t2_loop.trips) (c0_i32_63 : BitVec 32) : Fin 3 → Nat :=
  let c7 : Index := 7#32
  let c0_72 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v189 : Index := Scalar.indexCast v110
  ![7, 0, v189.toNat]
def k0_off28 (k0_t2 : Fin k0_t2_loop.trips) (c0_i32_63 : BitVec 32) : Fin 2 → Nat :=
  let c0_89 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v286 : Index := Scalar.indexCast v110
  ![0, v286.toNat]
def k0_off29 (k0_t2 : Fin k0_t2_loop.trips) (c0_i32_63 : BitVec 32) : Fin 2 → Nat :=
  let c0_90 : Index := 0#32
  let c256_i32 : BitVec 32 := 256#32
  let c0_i32_9 : BitVec 32 := 0#32
  let c1_i32_10 : BitVec 32 := 1#32
  let arg13 : BitVec 32 := Scf.iv c0_i32_9 c1_i32_10 k0_t2
  let v108 : BitVec 32 := Scalar.muli c256_i32 arg13
  let v109 : BitVec 32 := Scalar.addi v108 c0_i32_63
  let v110 : BitVec 32 := v109
  let v291 : Index := Scalar.indexCast v110
  ![0, v291.toNat]
def k0_mult3 (k0_t2 : Fin k0_t2_loop.trips) : BitVec 32 :=
  let c256_i32_92 : BitVec 32 := 256#32
  let c0_i32_9 : BitVec 32 := 0#32
  let c1_i32_10 : BitVec 32 := 1#32
  let arg13 : BitVec 32 := Scf.iv c0_i32_9 c1_i32_10 k0_t2
  let v302 : BitVec 32 := Scalar.muli c256_i32_92 arg13
  let c128_i32_93 : BitVec 32 := 128#32
  let v303 : BitVec 32 := Scalar.addi v302 c128_i32_93
  v303
@[reducible] def k0_t3_loop : Scf.Loop 32 :=
  let c0_i32_16 : BitVec 32 := 0#32
  let c28_i32_17 : BitVec 32 := 28#32
  let v35 : BitVec 32 := Scalar.addi c0_i32_16 c28_i32_17
  let c1_i32_18 : BitVec 32 := 1#32
  ⟨c0_i32_16, v35, c1_i32_18⟩
def k0_off30 (k0_t3 : Fin k0_t3_loop.trips) : Fin 4 → Nat :=
  let c1 : Index := 1#32
  let c0_i32_16 : BitVec 32 := 0#32
  let c1_i32_18 : BitVec 32 := 1#32
  let arg13 : BitVec 32 := Scf.iv c0_i32_16 c1_i32_18 k0_t3
  let c4_i32 : BitVec 32 := 4#32
  let v97 : BitVec 32 := Scalar.shrsi arg13 c4_i32
  let v98 : Index := Scalar.indexCast v97
  let c0_57 : Index := 0#32
  let c0_58 : Index := 0#32
  ![1, v98.toNat, 0, 0]
def k0_off31 (k0_t3 : Fin k0_t3_loop.trips) : Fin 3 → Nat :=
  let c0_i32_16 : BitVec 32 := 0#32
  let c1_i32_18 : BitVec 32 := 1#32
  let arg13 : BitVec 32 := Scf.iv c0_i32_16 c1_i32_18 k0_t3
  let c15_i32 : BitVec 32 := 15#32
  let v101 : BitVec 32 := Scalar.andi arg13 c15_i32
  let v102 : Index := Scalar.indexCast v101
  let c0_59 : Index := 0#32
  let c0_60 : Index := 0#32
  ![v102.toNat, 0, 0]
def k0_mult4 (k0_t3 : Fin k0_t3_loop.trips) : BitVec 32 :=
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let c0_i32_62 : BitVec 32 := 0#32
  let v109 : BitVec 32 := Scalar.addi v108 c0_i32_62
  v109
def k0_off32 (k0_t3 : Fin k0_t3_loop.trips) (c0_i32_62 : BitVec 32) : Fin 3 → Nat :=
  let c0_63 : Index := 0#32
  let c32 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v113 : Index := Scalar.indexCast v110
  ![0, 32, v113.toNat]
def k0_off33 (k0_t3 : Fin k0_t3_loop.trips) (c0_i32_62 : BitVec 32) : Fin 3 → Nat :=
  let c1_64 : Index := 1#32
  let c32_65 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v123 : Index := Scalar.indexCast v110
  ![1, 32, v123.toNat]
def k0_off34 (k0_t3 : Fin k0_t3_loop.trips) (c0_i32_62 : BitVec 32) : Fin 3 → Nat :=
  let c2 : Index := 2#32
  let c32_66 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v134 : Index := Scalar.indexCast v110
  ![2, 32, v134.toNat]
def k0_off35 (k0_t3 : Fin k0_t3_loop.trips) (c0_i32_62 : BitVec 32) : Fin 3 → Nat :=
  let c3 : Index := 3#32
  let c32_67 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v145 : Index := Scalar.indexCast v110
  ![3, 32, v145.toNat]
def k0_off36 (k0_t3 : Fin k0_t3_loop.trips) (c0_i32_62 : BitVec 32) : Fin 3 → Nat :=
  let c4 : Index := 4#32
  let c32_68 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v156 : Index := Scalar.indexCast v110
  ![4, 32, v156.toNat]
def k0_off37 (k0_t3 : Fin k0_t3_loop.trips) (c0_i32_62 : BitVec 32) : Fin 3 → Nat :=
  let c5 : Index := 5#32
  let c32_69 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v167 : Index := Scalar.indexCast v110
  ![5, 32, v167.toNat]
def k0_off38 (k0_t3 : Fin k0_t3_loop.trips) (c0_i32_62 : BitVec 32) : Fin 3 → Nat :=
  let c6 : Index := 6#32
  let c32_70 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v178 : Index := Scalar.indexCast v110
  ![6, 32, v178.toNat]
def k0_off39 (k0_t3 : Fin k0_t3_loop.trips) (c0_i32_62 : BitVec 32) : Fin 3 → Nat :=
  let c7 : Index := 7#32
  let c32_71 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v189 : Index := Scalar.indexCast v110
  ![7, 32, v189.toNat]
def k0_off40 (k0_t3 : Fin k0_t3_loop.trips) (c0_i32_62 : BitVec 32) : Fin 2 → Nat :=
  let c0_88 : Index := 0#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v286 : Index := Scalar.indexCast v110
  ![0, v286.toNat]
def k0_off41 (k0_t3 : Fin k0_t3_loop.trips) (c0_i32_62 : BitVec 32) : Fin 2 → Nat :=
  let c32_89 : Index := 32#32
  let c256_i32 : BitVec 32 := 256#32
  let c0_i32_16 : BitVec 32 := 0#32
  let c1_i32_18 : BitVec 32 := 1#32
  let arg13 : BitVec 32 := Scf.iv c0_i32_16 c1_i32_18 k0_t3
  let v108 : BitVec 32 := Scalar.muli c256_i32 arg13
  let v109 : BitVec 32 := Scalar.addi v108 c0_i32_62
  let v110 : BitVec 32 := v109
  let v291 : Index := Scalar.indexCast v110
  ![32, v291.toNat]
def k0_mult5 (k0_t3 : Fin k0_t3_loop.trips) : BitVec 32 :=
  let c256_i32_91 : BitVec 32 := 256#32
  let c0_i32_16 : BitVec 32 := 0#32
  let c1_i32_18 : BitVec 32 := 1#32
  let arg13 : BitVec 32 := Scf.iv c0_i32_16 c1_i32_18 k0_t3
  let v302 : BitVec 32 := Scalar.muli c256_i32_91 arg13
  let c128_i32_92 : BitVec 32 := 128#32
  let v303 : BitVec 32 := Scalar.addi v302 c128_i32_92
  v303
@[reducible] def k0_t4_loop : Scf.Loop 32 :=
  let c0_i32_24 : BitVec 32 := 0#32
  let c28_i32_25 : BitVec 32 := 28#32
  let v45 : BitVec 32 := Scalar.addi c0_i32_24 c28_i32_25
  let c1_i32_26 : BitVec 32 := 1#32
  ⟨c0_i32_24, v45, c1_i32_26⟩
def k0_off42 (k0_t4 : Fin k0_t4_loop.trips) : Fin 4 → Nat :=
  let c2 : Index := 2#32
  let c0_i32_24 : BitVec 32 := 0#32
  let c1_i32_26 : BitVec 32 := 1#32
  let arg13 : BitVec 32 := Scf.iv c0_i32_24 c1_i32_26 k0_t4
  let c4_i32 : BitVec 32 := 4#32
  let v97 : BitVec 32 := Scalar.shrsi arg13 c4_i32
  let v98 : Index := Scalar.indexCast v97
  let c0_57 : Index := 0#32
  let c0_58 : Index := 0#32
  ![2, v98.toNat, 0, 0]
def k0_off43 (k0_t4 : Fin k0_t4_loop.trips) : Fin 3 → Nat :=
  let c0_i32_24 : BitVec 32 := 0#32
  let c1_i32_26 : BitVec 32 := 1#32
  let arg13 : BitVec 32 := Scf.iv c0_i32_24 c1_i32_26 k0_t4
  let c15_i32 : BitVec 32 := 15#32
  let v101 : BitVec 32 := Scalar.andi arg13 c15_i32
  let v102 : Index := Scalar.indexCast v101
  let c0_59 : Index := 0#32
  let c0_60 : Index := 0#32
  ![v102.toNat, 0, 0]
def k0_mult6 (k0_t4 : Fin k0_t4_loop.trips) : BitVec 32 :=
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let c0_i32_62 : BitVec 32 := 0#32
  let v109 : BitVec 32 := Scalar.addi v108 c0_i32_62
  v109
def k0_off44 (k0_t4 : Fin k0_t4_loop.trips) (c0_i32_62 : BitVec 32) : Fin 3 → Nat :=
  let c0_63 : Index := 0#32
  let c64 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v113 : Index := Scalar.indexCast v110
  ![0, 64, v113.toNat]
def k0_off45 (k0_t4 : Fin k0_t4_loop.trips) (c0_i32_62 : BitVec 32) : Fin 3 → Nat :=
  let c1 : Index := 1#32
  let c64_64 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v123 : Index := Scalar.indexCast v110
  ![1, 64, v123.toNat]
def k0_off46 (k0_t4 : Fin k0_t4_loop.trips) (c0_i32_62 : BitVec 32) : Fin 3 → Nat :=
  let c2_65 : Index := 2#32
  let c64_66 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v134 : Index := Scalar.indexCast v110
  ![2, 64, v134.toNat]
def k0_off47 (k0_t4 : Fin k0_t4_loop.trips) (c0_i32_62 : BitVec 32) : Fin 3 → Nat :=
  let c3 : Index := 3#32
  let c64_67 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v145 : Index := Scalar.indexCast v110
  ![3, 64, v145.toNat]
def k0_off48 (k0_t4 : Fin k0_t4_loop.trips) (c0_i32_62 : BitVec 32) : Fin 3 → Nat :=
  let c4 : Index := 4#32
  let c64_68 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v156 : Index := Scalar.indexCast v110
  ![4, 64, v156.toNat]
def k0_off49 (k0_t4 : Fin k0_t4_loop.trips) (c0_i32_62 : BitVec 32) : Fin 3 → Nat :=
  let c5 : Index := 5#32
  let c64_69 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v167 : Index := Scalar.indexCast v110
  ![5, 64, v167.toNat]
def k0_off50 (k0_t4 : Fin k0_t4_loop.trips) (c0_i32_62 : BitVec 32) : Fin 3 → Nat :=
  let c6 : Index := 6#32
  let c64_70 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v178 : Index := Scalar.indexCast v110
  ![6, 64, v178.toNat]
def k0_off51 (k0_t4 : Fin k0_t4_loop.trips) (c0_i32_62 : BitVec 32) : Fin 3 → Nat :=
  let c7 : Index := 7#32
  let c64_71 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v189 : Index := Scalar.indexCast v110
  ![7, 64, v189.toNat]
def k0_off52 (k0_t4 : Fin k0_t4_loop.trips) (c0_i32_62 : BitVec 32) : Fin 2 → Nat :=
  let c0_88 : Index := 0#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v286 : Index := Scalar.indexCast v110
  ![0, v286.toNat]
def k0_off53 (k0_t4 : Fin k0_t4_loop.trips) (c0_i32_62 : BitVec 32) : Fin 2 → Nat :=
  let c64_89 : Index := 64#32
  let c256_i32 : BitVec 32 := 256#32
  let c0_i32_24 : BitVec 32 := 0#32
  let c1_i32_26 : BitVec 32 := 1#32
  let arg13 : BitVec 32 := Scf.iv c0_i32_24 c1_i32_26 k0_t4
  let v108 : BitVec 32 := Scalar.muli c256_i32 arg13
  let v109 : BitVec 32 := Scalar.addi v108 c0_i32_62
  let v110 : BitVec 32 := v109
  let v291 : Index := Scalar.indexCast v110
  ![64, v291.toNat]
def k0_mult7 (k0_t4 : Fin k0_t4_loop.trips) : BitVec 32 :=
  let c256_i32_91 : BitVec 32 := 256#32
  let c0_i32_24 : BitVec 32 := 0#32
  let c1_i32_26 : BitVec 32 := 1#32
  let arg13 : BitVec 32 := Scf.iv c0_i32_24 c1_i32_26 k0_t4
  let v302 : BitVec 32 := Scalar.muli c256_i32_91 arg13
  let c128_i32_92 : BitVec 32 := 128#32
  let v303 : BitVec 32 := Scalar.addi v302 c128_i32_92
  v303
@[reducible] def k0_t5_loop : Scf.Loop 32 :=
  let c0_i32_32 : BitVec 32 := 0#32
  let c28_i32_33 : BitVec 32 := 28#32
  let v55 : BitVec 32 := Scalar.addi c0_i32_32 c28_i32_33
  let c1_i32_34 : BitVec 32 := 1#32
  ⟨c0_i32_32, v55, c1_i32_34⟩
def k0_off54 (k0_t5 : Fin k0_t5_loop.trips) : Fin 4 → Nat :=
  let c3 : Index := 3#32
  let c0_i32_32 : BitVec 32 := 0#32
  let c1_i32_34 : BitVec 32 := 1#32
  let arg13 : BitVec 32 := Scf.iv c0_i32_32 c1_i32_34 k0_t5
  let c4_i32 : BitVec 32 := 4#32
  let v97 : BitVec 32 := Scalar.shrsi arg13 c4_i32
  let v98 : Index := Scalar.indexCast v97
  let c0_57 : Index := 0#32
  let c0_58 : Index := 0#32
  ![3, v98.toNat, 0, 0]
def k0_off55 (k0_t5 : Fin k0_t5_loop.trips) : Fin 3 → Nat :=
  let c0_i32_32 : BitVec 32 := 0#32
  let c1_i32_34 : BitVec 32 := 1#32
  let arg13 : BitVec 32 := Scf.iv c0_i32_32 c1_i32_34 k0_t5
  let c15_i32 : BitVec 32 := 15#32
  let v101 : BitVec 32 := Scalar.andi arg13 c15_i32
  let v102 : Index := Scalar.indexCast v101
  let c0_59 : Index := 0#32
  let c0_60 : Index := 0#32
  ![v102.toNat, 0, 0]
def k0_mult8 (k0_t5 : Fin k0_t5_loop.trips) : BitVec 32 :=
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let c0_i32_62 : BitVec 32 := 0#32
  let v109 : BitVec 32 := Scalar.addi v108 c0_i32_62
  v109
def k0_off56 (k0_t5 : Fin k0_t5_loop.trips) (c0_i32_62 : BitVec 32) : Fin 3 → Nat :=
  let c0_63 : Index := 0#32
  let c96 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v113 : Index := Scalar.indexCast v110
  ![0, 96, v113.toNat]
def k0_off57 (k0_t5 : Fin k0_t5_loop.trips) (c0_i32_62 : BitVec 32) : Fin 3 → Nat :=
  let c1 : Index := 1#32
  let c96_64 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v123 : Index := Scalar.indexCast v110
  ![1, 96, v123.toNat]
def k0_off58 (k0_t5 : Fin k0_t5_loop.trips) (c0_i32_62 : BitVec 32) : Fin 3 → Nat :=
  let c2 : Index := 2#32
  let c96_65 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v134 : Index := Scalar.indexCast v110
  ![2, 96, v134.toNat]
def k0_off59 (k0_t5 : Fin k0_t5_loop.trips) (c0_i32_62 : BitVec 32) : Fin 3 → Nat :=
  let c3_66 : Index := 3#32
  let c96_67 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v145 : Index := Scalar.indexCast v110
  ![3, 96, v145.toNat]
def k0_off60 (k0_t5 : Fin k0_t5_loop.trips) (c0_i32_62 : BitVec 32) : Fin 3 → Nat :=
  let c4 : Index := 4#32
  let c96_68 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v156 : Index := Scalar.indexCast v110
  ![4, 96, v156.toNat]
def k0_off61 (k0_t5 : Fin k0_t5_loop.trips) (c0_i32_62 : BitVec 32) : Fin 3 → Nat :=
  let c5 : Index := 5#32
  let c96_69 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v167 : Index := Scalar.indexCast v110
  ![5, 96, v167.toNat]
def k0_off62 (k0_t5 : Fin k0_t5_loop.trips) (c0_i32_62 : BitVec 32) : Fin 3 → Nat :=
  let c6 : Index := 6#32
  let c96_70 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v178 : Index := Scalar.indexCast v110
  ![6, 96, v178.toNat]
def k0_off63 (k0_t5 : Fin k0_t5_loop.trips) (c0_i32_62 : BitVec 32) : Fin 3 → Nat :=
  let c7 : Index := 7#32
  let c96_71 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v189 : Index := Scalar.indexCast v110
  ![7, 96, v189.toNat]
def k0_off64 (k0_t5 : Fin k0_t5_loop.trips) (c0_i32_62 : BitVec 32) : Fin 2 → Nat :=
  let c0_88 : Index := 0#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v286 : Index := Scalar.indexCast v110
  ![0, v286.toNat]
def k0_off65 (k0_t5 : Fin k0_t5_loop.trips) (c0_i32_62 : BitVec 32) : Fin 2 → Nat :=
  let c96_89 : Index := 96#32
  let c256_i32 : BitVec 32 := 256#32
  let c0_i32_32 : BitVec 32 := 0#32
  let c1_i32_34 : BitVec 32 := 1#32
  let arg13 : BitVec 32 := Scf.iv c0_i32_32 c1_i32_34 k0_t5
  let v108 : BitVec 32 := Scalar.muli c256_i32 arg13
  let v109 : BitVec 32 := Scalar.addi v108 c0_i32_62
  let v110 : BitVec 32 := v109
  let v291 : Index := Scalar.indexCast v110
  ![96, v291.toNat]
def k0_mult9 (k0_t5 : Fin k0_t5_loop.trips) : BitVec 32 :=
  let c256_i32_91 : BitVec 32 := 256#32
  let c0_i32_32 : BitVec 32 := 0#32
  let c1_i32_34 : BitVec 32 := 1#32
  let arg13 : BitVec 32 := Scf.iv c0_i32_32 c1_i32_34 k0_t5
  let v302 : BitVec 32 := Scalar.muli c256_i32_91 arg13
  let c128_i32_92 : BitVec 32 := 128#32
  let v303 : BitVec 32 := Scalar.addi v302 c128_i32_92
  v303
@[reducible] def k0_t6_loop : Scf.Loop 32 :=
  let c0_i32_39 : BitVec 32 := 0#32
  let c56_i32 : BitVec 32 := 56#32
  let v65 : BitVec 32 := Scalar.addi c0_i32_39 c56_i32
  let c1_i32_40 : BitVec 32 := 1#32
  ⟨c0_i32_39, v65, c1_i32_40⟩
def k0_mult10 (k0_t6 : Fin k0_t6_loop.trips) : BitVec 32 :=
  let c128_i32_57 : BitVec 32 := 128#32
  let c0_i32_39 : BitVec 32 := 0#32
  let c1_i32_40 : BitVec 32 := 1#32
  let arg13 : BitVec 32 := Scf.iv c0_i32_39 c1_i32_40 k0_t6
  let v97 : BitVec 32 := Scalar.muli c128_i32_57 arg13
  v97
def k0_off66 (k0_t6 : Fin k0_t6_loop.trips) : Fin 2 → Nat :=
  let c0_58 : Index := 0#32
  let c128_i32_57 : BitVec 32 := 128#32
  let c0_i32_39 : BitVec 32 := 0#32
  let c1_i32_40 : BitVec 32 := 1#32
  let arg13 : BitVec 32 := Scf.iv c0_i32_39 c1_i32_40 k0_t6
  let v97 : BitVec 32 := Scalar.muli c128_i32_57 arg13
  let v98 : BitVec 32 := v97
  let v99 : Index := Scalar.indexCast v98
  ![0, v99.toNat]
def k0_off67 (k0_t6 : Fin k0_t6_loop.trips) : Fin 2 → Nat :=
  let c0_59 : Index := 0#32
  let c128_i32_57 : BitVec 32 := 128#32
  let c0_i32_39 : BitVec 32 := 0#32
  let c1_i32_40 : BitVec 32 := 1#32
  let arg13 : BitVec 32 := Scf.iv c0_i32_39 c1_i32_40 k0_t6
  let v97 : BitVec 32 := Scalar.muli c128_i32_57 arg13
  let v98 : BitVec 32 := v97
  let v105 : Index := Scalar.indexCast v98
  ![0, v105.toNat]
def k0_off68 (k0_t6 : Fin k0_t6_loop.trips) : Fin 3 → Nat :=
  let c0_80 : Index := 0#32
  let c4_i32_79 : BitVec 32 := 4#32
  let c0_i32_39 : BitVec 32 := 0#32
  let c1_i32_40 : BitVec 32 := 1#32
  let arg13 : BitVec 32 := Scf.iv c0_i32_39 c1_i32_40 k0_t6
  let v186 : BitVec 32 := Scalar.muli c4_i32_79 arg13
  let v187 : Index := Scalar.indexCast v186
  let c0_81 : Index := 0#32
  ![0, v187.toNat, 0]
def k0_off69 (k0_t6 : Fin k0_t6_loop.trips) : Fin 2 → Nat :=
  let c4_i32_83 : BitVec 32 := 4#32
  let c0_i32_39 : BitVec 32 := 0#32
  let c1_i32_40 : BitVec 32 := 1#32
  let arg13 : BitVec 32 := Scf.iv c0_i32_39 c1_i32_40 k0_t6
  let v196 : BitVec 32 := Scalar.muli c4_i32_83 arg13
  let v197 : Index := Scalar.indexCast v196
  let c0_84 : Index := 0#32
  ![v197.toNat, 0]
@[reducible] def k0_t7_loop : Scf.Loop 32 :=
  let c0_i32_50 : BitVec 32 := 0#32
  let c32_i32_51 : BitVec 32 := 32#32
  let v95 : BitVec 32 := Scalar.addi c0_i32_50 c32_i32_51
  let c1_i32_52 : BitVec 32 := 1#32
  ⟨c0_i32_50, v95, c1_i32_52⟩
def k0_mult11 (k0_t7 : Fin k0_t7_loop.trips) : BitVec 32 :=
  let c128_i32_58 : BitVec 32 := 128#32
  let c0_i32_57 : BitVec 32 := 0#32
  let c0_i32_50 : BitVec 32 := 0#32
  let c1_i32_52 : BitVec 32 := 1#32
  let arg13 : BitVec 32 := Scf.iv c0_i32_50 c1_i32_52 k0_t7
  let v97 : BitVec 32 := Scalar.addi c0_i32_57 arg13
  let v98 : BitVec 32 := Scalar.muli c128_i32_58 v97
  v98
def k0_off70 (k0_t7 : Fin k0_t7_loop.trips) : Fin 2 → Nat :=
  let c0_61 : Index := 0#32
  let c128_i32_58 : BitVec 32 := 128#32
  let c0_i32_57 : BitVec 32 := 0#32
  let c0_i32_50 : BitVec 32 := 0#32
  let c1_i32_52 : BitVec 32 := 1#32
  let arg13 : BitVec 32 := Scf.iv c0_i32_50 c1_i32_52 k0_t7
  let v97 : BitVec 32 := Scalar.addi c0_i32_57 arg13
  let v98 : BitVec 32 := Scalar.muli c128_i32_58 v97
  let v99 : BitVec 32 := v98
  let v111 : Index := Scalar.indexCast v99
  ![0, v111.toNat]
@[reducible] def k0_t8_loop : Scf.Loop 32 :=
  let c0_i32_54 : BitVec 32 := 0#32
  let c24_i32 : BitVec 32 := 24#32
  let v96 : BitVec 32 := Scalar.addi c0_i32_54 c24_i32
  let c1_i32_55 : BitVec 32 := 1#32
  ⟨c0_i32_54, v96, c1_i32_55⟩
def k0_mult12 (k0_t8 : Fin k0_t8_loop.trips) : BitVec 32 :=
  let c128_i32_58 : BitVec 32 := 128#32
  let c32_i32_57 : BitVec 32 := 32#32
  let c0_i32_54 : BitVec 32 := 0#32
  let c1_i32_55 : BitVec 32 := 1#32
  let arg13 : BitVec 32 := Scf.iv c0_i32_54 c1_i32_55 k0_t8
  let v97 : BitVec 32 := Scalar.addi c32_i32_57 arg13
  let v98 : BitVec 32 := Scalar.muli c128_i32_58 v97
  v98
def k0_off71 (k0_t8 : Fin k0_t8_loop.trips) : Fin 2 → Nat :=
  let c0_61 : Index := 0#32
  let c128_i32_58 : BitVec 32 := 128#32
  let c32_i32_57 : BitVec 32 := 32#32
  let c0_i32_54 : BitVec 32 := 0#32
  let c1_i32_55 : BitVec 32 := 1#32
  let arg13 : BitVec 32 := Scf.iv c0_i32_54 c1_i32_55 k0_t8
  let v97 : BitVec 32 := Scalar.addi c32_i32_57 arg13
  let v98 : BitVec 32 := Scalar.muli c128_i32_58 v97
  let v99 : BitVec 32 := v98
  let v111 : Index := Scalar.indexCast v99
  ![0, v111.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S8x128x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S8x2x1024x7168 : Shape := ⟨4, ![8, 2, 1024, 7168]⟩
abbrev S8x2x1024x224 : Shape := ⟨4, ![8, 2, 1024, 224]⟩
abbrev S7168 : Shape := ⟨1, ![7168]⟩
abbrev S2x1024x7168 : Shape := ⟨3, ![2, 1024, 7168]⟩
abbrev S8x2048x7168 : Shape := ⟨3, ![8, 2048, 7168]⟩
abbrev S8x2048x224 : Shape := ⟨3, ![8, 2048, 224]⟩
abbrev S1x7168 : Shape := ⟨2, ![1, 7168]⟩
abbrev S2048x7168 : Shape := ⟨2, ![2048, 7168]⟩
abbrev S2x224x1024 : Shape := ⟨3, ![2, 224, 1024]⟩
abbrev S8x2048x224x32 : Shape := ⟨4, ![8, 2048, 224, 32]⟩
abbrev S8x2048x224x1 : Shape := ⟨4, ![8, 2048, 224, 1]⟩
abbrev S2048x224x32 : Shape := ⟨3, ![2048, 224, 32]⟩
abbrev S2048 : Shape := ⟨1, ![2048]⟩
abbrev S2048x1 : Shape := ⟨2, ![2048, 1]⟩
abbrev S2048x224 : Shape := ⟨2, ![2048, 224]⟩
abbrev S2048x224x254 : Shape := ⟨3, ![2048, 224, 254]⟩
abbrev S2048x224x1 : Shape := ⟨3, ![2048, 224, 1]⟩
abbrev S2x1024x224 : Shape := ⟨3, ![2, 1024, 224]⟩

abbrev nBuf : Space → Nat
  | .hbm => 13
  | .vmem => 8
  | .smem => 0
  | _ => 0

abbrev bufTy : (tb : Table) → Fin (tcTables nBuf tb) → BufTy
  | .hbm, ⟨0, _⟩ => ⟨S8x2x1024x7168, .fp8e4m3⟩
  | .hbm, ⟨1, _⟩ => ⟨S8x2x1024x224, .f32⟩
  | .hbm, ⟨2, _⟩ => ⟨S7168, .f32⟩
  | .hbm, ⟨3, _⟩ => ⟨S2x1024x7168, .bf16⟩
  | .hbm, ⟨4, _⟩ => ⟨S7168, .f32⟩
  | .hbm, ⟨5, _⟩ => ⟨S8x2048x7168, .fp8e4m3⟩
  | .hbm, ⟨6, _⟩ => ⟨S8x2048x224, .f32⟩
  | .hbm, ⟨7, _⟩ => ⟨S1x7168, .f32⟩
  | .hbm, ⟨8, _⟩ => ⟨S2048x7168, .bf16⟩
  | .hbm, ⟨9, _⟩ => ⟨S1x7168, .f32⟩
  | .hbm, ⟨10, _⟩ => ⟨S2048x7168, .bf16⟩
  | .hbm, ⟨11, _⟩ => ⟨S2048x7168, .fp8e4m3⟩
  | .hbm, ⟨12, _⟩ => ⟨S2x224x1024, .f32⟩
  | .local _ .vmem, ⟨0, _⟩ => ⟨S8x2048x7168, .fp8e4m3⟩
  | .local _ .vmem, ⟨1, _⟩ => ⟨S8x2048x224, .f32⟩
  | .local _ .vmem, ⟨2, _⟩ => ⟨S1x7168, .f32⟩
  | .local _ .vmem, ⟨3, _⟩ => ⟨S2048x7168, .bf16⟩
  | .local _ .vmem, ⟨4, _⟩ => ⟨S1x7168, .f32⟩
  | .local _ .vmem, ⟨5, _⟩ => ⟨S2048x7168, .bf16⟩
  | .local _ .vmem, ⟨6, _⟩ => ⟨S2048x7168, .fp8e4m3⟩
  | .local _ .vmem, ⟨7, _⟩ => ⟨S2x224x1024, .f32⟩
  | _, _ => ⟨S8x2x1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KRuns.lean ====
/- The kernel as printed: @main up to its one region, the arrays there, the blocks of a grid step, and what a step is run from. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S8x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x224x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x256x256 .bf16 := Memref.whole cc0_scratch0
abbrev scM0_1 : Memref sig .tc .vmem S4x2x128x256 .bf16 := Memref.whole cc0_scratch1
abbrev scM0_2 : Memref sig .tc .vmem S128x7168 .f32 := Memref.whole cc0_scratch2
abbrev scM0_3 : Memref sig .tc .vmem S256x128 .f32 := Memref.whole cc0_scratch3
/-- The scratch `arg9` the kernel carries between points, as a view: what it holds is stated through it. -/
abbrev VS0_0 : View sig .tc .vmem S16x256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.KRunA.lean ====
/- The kernel as printed: one grid step after the first, from the blocks it is given to those it leaves. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_A (c : Dev nD) (i : grid0.Coords) (arg1 : Memref sig .tc .vmem S8x128x7168 .fp8e4m3) (harg1 : arg1.IsWhole) (arg2 : Memref sig .tc .vmem S8x1x224x128 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S1x224x128 .f32) (harg8 : arg8.IsWhole) (arg9 : Memref sig .tc .vmem S16x256x256 .bf16) (harg9 : arg9.IsWhole) (arg10 : Memref sig .tc .vmem S4x2x128x256 .bf16) (harg10 : arg10.IsWhole) (arg11 : Memref sig .tc .vmem S128x7168 .f32) (harg11 : arg11.IsWhole) (arg12 : Memref sig .tc .vmem S256x128 .f32) (harg12 : arg12.IsWhole) (hc0 : cond0_0 i)
    (x0 : Vec F S8x128x7168 .fp8e4m3) (x1 : Vec F S8x1x224x128 .f32) (x2 : Vec F S1x7168 .f32) (x3 : Vec F S128x7168 .bf16) (x4 : Vec F S1x7168 .f32) :
    { LS0 : List (View.Piece (Elt F) S16x256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_dequant_sum_norm_quant i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_dequant_sum_norm_quant_eq_skeleton]; unfold cc0_dequant_sum_norm_quant_skel
    simp only [k0_part43_eq_skeleton, k0_part1_eq_skeleton, k0_part2_eq_skeleton, k0_part3_eq_skeleton, k0_part4_eq_skeleton, k0_part5_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KRunB.lean ====
/- The kernel as printed: the first grid step, which also fills the weights. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_B (c : Dev nD) (i : grid0.Coords) (arg1 : Memref sig .tc .vmem S8x128x7168 .fp8e4m3) (harg1 : arg1.IsWhole) (arg2 : Memref sig .tc .vmem S8x1x224x128 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S1x224x128 .f32) (harg8 : arg8.IsWhole) (arg9 : Memref sig .tc .vmem S16x256x256 .bf16) (harg9 : arg9.IsWhole) (arg10 : Memref sig .tc .vmem S4x2x128x256 .bf16) (harg10 : arg10.IsWhole) (arg11 : Memref sig .tc .vmem S128x7168 .f32) (harg11 : arg11.IsWhole) (arg12 : Memref sig .tc .vmem S256x128 .f32) (harg12 : arg12.IsWhole) (hc0 : ¬cond0_0 i)
    (x0 : Vec F S8x128x7168 .fp8e4m3) (x1 : Vec F S8x1x224x128 .f32) (x2 : Vec F S1x7168 .f32) (x3 : Vec F S128x7168 .bf16) (x4 : Vec F S1x7168 .f32) (xs0 : Vec F S16x256x256 .bf16) :
    { LS0 : List (View.Piece (Elt F) S16x256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_dequant_sum_norm_quant i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_dequant_sum_norm_quant_eq_skeleton]; unfold cc0_dequant_sum_norm_quant_skel
    simp only [k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.KFrame.lean ====
/- The kernel as printed: every step runs, so the launch ends, with the arguments and every semaphore as they were. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 16 pieces of `S1x256x256` tiling it (Lib/Ring.lean `Piece.tiledL`). -/
theorem scover0_A_0 (c : Dev nD) (i : grid0.Coords) (arg1 : Memref sig .tc .vmem S8x128x7168 .fp8e4m3) (harg1 : arg1.IsWhole) (arg2 : Memref sig .tc .vmem S8x1x224x128 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S1x224x128 .f32) (harg8 : arg8.IsWhole) (arg9 : Memref sig .tc .vmem S16x256x256 .bf16) (harg9 : arg9.IsWhole) (arg10 : Memref sig .tc .vmem S4x2x128x256 .bf16) (harg10 : arg10.IsWhole) (arg11 : Memref sig .tc .vmem S128x7168 .f32) (harg11 : arg11.IsWhole) (arg12 : Memref sig .tc .vmem S256x128 .f32) (harg12 : arg12.IsWhole) (hc0 : cond0_0 i)
    (x0 : Vec F S8x128x7168 .fp8e4m3) (x1 : Vec F S8x1x224x128 .f32) (x2 : Vec F S1x7168 .f32) (x3 : Vec F S128x7168 .bf16) (x4 : Vec F S1x7168 .f32) (y : S16x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S1x256x256.size (by sl_kernel_rfl) y

/-- What case A leaves in scratch `arg9`: its pieces read back over junk. -/
def sout0_A_0 (c : Dev nD) (i : grid0.Coords) (arg1 : Memref sig .tc .vmem S8x128x7168 .fp8e4m3) (harg1 : arg1.IsWhole) (arg2 : Memref sig .tc .vmem S8x1x224x128 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S1x224x128 .f32) (harg8 : arg8.IsWhole) (arg9 : Memref sig .tc .vmem S16x256x256 .bf16) (harg9 : arg9.IsWhole) (arg10 : Memref sig .tc .vmem S4x2x128x256 .bf16) (harg10 : arg10.IsWhole) (arg11 : Memref sig .tc .vmem S128x7168 .f32) (harg11 : arg11.IsWhole) (arg12 : Memref sig .tc .vmem S256x128 .f32) (harg12 : arg12.IsWhole) (hc0 : cond0_0 i)
    (x0 : Vec F S8x128x7168 .fp8e4m3) (x1 : Vec F S8x1x224x128 .f32) (x2 : Vec F S1x7168 .f32) (x3 : Vec F S128x7168 .bf16) (x4 : Vec F S1x7168 .f32) : Vec F S16x256x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case B stores nothing into scratch `arg9`: it holds what the point before left. -/
def sout0_B_0 (c : Dev nD) (i : grid0.Coords) (arg1 : Memref sig .tc .vmem S8x128x7168 .fp8e4m3) (harg1 : arg1.IsWhole) (arg2 : Memref sig .tc .vmem S8x1x224x128 .f32) (harg2 : arg2.IsWhole) (arg3 : Memref sig .tc .vmem S1x7168 .f32) (harg3 : arg3.IsWhole) (arg4 : Memref sig .tc .vmem S128x7168 .bf16) (harg4 : arg4.IsWhole) (arg5 : Memref sig .tc .vmem S1x7168 .f32) (harg5 : arg5.IsWhole) (arg6 : Memref sig .tc .vmem S128x7168 .bf16) (harg6 : arg6.IsWhole) (arg7 : Memref sig .tc .vmem S128x7168 .fp8e4m3) (harg7 : arg7.IsWhole) (arg8 : Memref sig .tc .vmem S1x224x128 .f32) (harg8 : arg8.IsWhole) (arg9 : Memref sig .tc .vmem S16x256x256 .bf16) (harg9 : arg9.IsWhole) (arg10 : Memref sig .tc .vmem S4x2x128x256 .bf16) (harg10 : arg10.IsWhole) (arg11 : Memref sig .tc .vmem S128x7168 .f32) (harg11 : arg11.IsWhole) (arg12 : Memref sig .tc .vmem S256x128 .f32) (harg12 : arg12.IsWhole) (hc0 : ¬cond0_0 i)
    (x0 : Vec F S8x128x7168 .fp8e4m3) (x1 : Vec F S8x1x224x128 .f32) (x2 : Vec F S1x7168 .f32) (x3 : Vec F S128x7168 .bf16) (x4 : Vec F S1x7168 .f32) (xs0 : Vec F S16x256x256 .bf16) : Vec F S16x256x256 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x256x256 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 16 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold sout0_B_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Exp.lean ====
/- The exponent field of a float as the kernel finds it, over the extended reals.

   `Pw n` is the float whose exponent field is `n` and whose other bits are zero. The kernel searches the largest `n` with
   `Pw n ≤ v`, one bit at a time; `search_spec` says that the search finds it. -/
module

public import Idealize.ShloMosaic.Lib.Pointwise

@[expose] public section

noncomputable section

namespace Cert.Hand

open Idealize.ShloMosaic

/-- The float with exponent field `n`, no sign and no mantissa bits. -/
def Pw (n : ℕ) : EReal :=
  if n = 0 then 0 else if n < 255 then (((2 : ℝ) ^ ((n : ℤ) - 127) : ℝ) : EReal) else ⊤

theorem Pw_zero : Pw 0 = 0 := rfl

theorem Pw_of_lt {n : ℕ} (h0 : n ≠ 0) (h : n < 255) : Pw n = (((2 : ℝ) ^ ((n : ℤ) - 127) : ℝ) : EReal) := by
  simp [Pw, h0, h]

theorem Pw_top : Pw 255 = ⊤ := by simp [Pw]

theorem Pw_nonneg (n : ℕ) : 0 ≤ Pw n := by
  unfold Pw
  split_ifs
  · exact le_rfl
  · exact_mod_cast (by positivity : (0 : ℝ) ≤ (2 : ℝ) ^ ((n : ℤ) - 127))
  · exact le_top

theorem Pw_mono {a b : ℕ} (h : a ≤ b) : Pw a ≤ Pw b := by
  by_cases ha : a = 0
  · subst ha; exact Pw_nonneg b
  by_cases hb : b < 255
  · rw [Pw_of_lt ha (by omega), Pw_of_lt (by omega) hb]
    exact EReal.coe_le_coe_iff.mpr (zpow_le_zpow_right₀ (by norm_num) (by omega))
  · have : Pw b = ⊤ := by simp [Pw, show b ≠ 0 by omega, hb]
    rw [this]; exact le_top

/-- A normal pattern with no mantissa bits is a power of two. -/
theorem normal_eq (n m : ℕ) :
    ((if false = true then -1 else 1 : ℝ) * ((2 ^ m + 0 : ℕ) : ℝ) * (2 : ℝ) ^ ((n : ℤ) - (2 ^ (8 - 1) - 1) - (m : ℤ)) : ℝ)
      = (2 : ℝ) ^ ((n : ℤ) - 127) := by
  rw [show ((n : ℤ) - 127) = (m : ℤ) + ((n : ℤ) - (2 ^ (8 - 1) - 1) - (m : ℤ)) by norm_num, zpow_add₀ (by norm_num)]
  simp

/-- The f32 pattern with exponent field `n`. -/
theorem ofBits_f32_exp : ∀ n : Fin 256, Ideal.ofBits .f32 (BitVec.ofNat 32 n.val <<< 23) = Pw n.val := by
  intro n
  have h1 : ((BitVec.ofNat 32 n.val <<< 23).extractLsb' 31 1 == 1#1) = false := by revert n; decide +kernel
  have h2 : ((BitVec.ofNat 32 n.val <<< 23).extractLsb' 23 8).toNat = n.val := by revert n; decide +kernel
  have h3 : ((BitVec.ofNat 32 n.val <<< 23).extractLsb' 0 23).toNat = 0 := by revert n; decide +kernel
  show Ideal.ieee 8 23 _ = _
  unfold Ideal.ieee
  simp only [h1, h2, h3]
  unfold Pw
  by_cases e0 : n.val = 0
  · simp [e0]
  by_cases e1 : n.val < 255
  · rw [if_neg (by omega), if_neg e0, if_neg e0, if_pos e1]
    exact congrArg _ (normal_eq n.val 23)
  · rw [if_pos (by omega), if_neg e0, if_neg e1]; simp

/-- The bf16 pattern with exponent field `n`. -/
theorem ofBits_bf16_exp : ∀ n : Fin 256, Ideal.ofBits .bf16 (BitVec.ofNat 16 (n.val * 128)) = Pw n.val := by
  intro n
  have h1 : ((BitVec.ofNat 16 (n.val * 128)).extractLsb' 15 1 == 1#1) = false := by revert n; decide +kernel
  have h2 : ((BitVec.ofNat 16 (n.val * 128)).extractLsb' 7 8).toNat = n.val := by revert n; decide +kernel
  have h3 : ((BitVec.ofNat 16 (n.val * 128)).extractLsb' 0 7).toNat = 0 := by revert n; decide +kernel
  show Ideal.ieee 8 7 _ = _
  unfold Ideal.ieee
  simp only [h1, h2, h3]
  unfold Pw
  by_cases e0 : n.val = 0
  · simp [e0]
  by_cases e1 : n.val < 255
  · rw [if_neg (by omega), if_neg e0, if_neg e0, if_pos e1]
    exact congrArg _ (normal_eq n.val 7)
  · rw [if_pos (by omega), if_neg e0, if_neg e1]; simp

/-- One step of the search: the bit `w` is kept unless `test` says that the power with it is too large. -/
def step (test : BitVec 32 → Bool) (w : BitVec 32) (e : BitVec 32) : BitVec 32 := if test (e + w) then e else e + w

/-- The eight steps. -/
def search (test : BitVec 32 → Bool) : BitVec 32 :=
  step test 1#32 (step test 2#32 (step test 4#32 (step test 8#32 (step test 16#32 (step test 32#32 (step test 64#32
    (step test 128#32 0#32)))))))

/-- A step keeps the accumulated bits below the next bit's limit, so that it only tests numbers below 256. -/
theorem step_congr {t t' : BitVec 32 → Bool} (h : ∀ c : BitVec 32, c.toNat < 256 → t c = t' c) {w e e' : BitVec 32}
    (hw0 : 0 < w.toNat) (he : e = e') (hl : e.toNat + 2 * w.toNat ≤ 256) :
    step t w e = step t' w e' ∧ (step t w e).toNat + w.toNat ≤ 256 := by
  subst he
  have hs : (e + w).toNat = e.toNat + w.toNat := by rw [BitVec.toNat_add, Nat.mod_eq_of_lt]; omega
  refine ⟨by unfold step; rw [h _ (by omega)], ?_⟩
  unfold step; split <;> omega

theorem search_congr {t t' : BitVec 32 → Bool} (h : ∀ c : BitVec 32, c.toNat < 256 → t c = t' c) :
    search t = search t' := by
  obtain ⟨h7, l7⟩ := step_congr h (w := 128#32) (by decide) (rfl : 0#32 = 0#32) (by decide)
  obtain ⟨h6, l6⟩ := step_congr h (w := 64#32) (by decide) h7 (by simpa using l7)
  obtain ⟨h5, l5⟩ := step_congr h (w := 32#32) (by decide) h6 (by simpa using l6)
  obtain ⟨h4, l4⟩ := step_congr h (w := 16#32) (by decide) h5 (by simpa using l5)
  obtain ⟨h3, l3⟩ := step_congr h (w := 8#32) (by decide) h4 (by simpa using l4)
  obtain ⟨h2, l2⟩ := step_congr h (w := 4#32) (by decide) h3 (by simpa using l3)
  obtain ⟨h1, l1⟩ := step_congr h (w := 2#32) (by decide) h2 (by simpa using l2)
  exact (step_congr h (w := 1#32) (by decide) h1 (by simpa using l1)).1

theorem search_lt : ∀ N : Fin 256, search (fun c => decide (N.val < c.toNat)) = BitVec.ofNat 32 N.val := by
  decide +kernel

/-- The largest exponent field whose power is not above `v`. -/
def bexp (v : EReal) : ℕ := Nat.findGreatest (fun n => Pw n ≤ v) 255

theorem bexp_le (v : EReal) : bexp v ≤ 255 := Nat.findGreatest_le _

theorem Pw_le_iff {v : EReal} (hv : 0 ≤ v) {n : ℕ} (hn : n ≤ 255) : Pw n ≤ v ↔ n ≤ bexp v := by
  classical
  constructor
  · exact fun h => Nat.le_findGreatest hn h
  · intro h
    have h0 : Pw (bexp v) ≤ v := Nat.findGreatest_spec (P := fun n => Pw n ≤ v) (Nat.zero_le 255) (by simpa [Pw_zero] using hv)
    exact (Pw_mono h).trans h0

/-- A power's own exponent field. -/
theorem bexp_Pw {n : ℕ} (hn : n ≤ 255) : Pw (bexp (Pw n)) = Pw n :=
  le_antisymm ((Pw_le_iff (Pw_nonneg n) (bexp_le _)).mpr le_rfl) (Pw_mono ((Pw_le_iff (Pw_nonneg n) hn).mp le_rfl))

/-- The search in the kernel's words finds `bexp v`. -/
theorem search_spec {v : EReal} (hv : 0 ≤ v) :
    search (fun c => decide (v < Ideal.ofBits .f32 (c <<< 23))) = BitVec.ofNat 32 (bexp v) := by
  rw [← search_lt ⟨bexp v, by have := bexp_le v; omega⟩]
  refine search_congr fun c hc => ?_
  have hc' : c = BitVec.ofNat 32 c.toNat := by simp
  rw [hc', ofBits_f32_exp ⟨c.toNat, hc⟩]
  simp only [BitVec.toNat_ofNat, Nat.mod_eq_of_lt (show c.toNat < 2 ^ 32 by omega)]
  congr 1
  rw [← not_le, Pw_le_iff hv (by omega)]
  exact propext not_le

/-- A negative `v` (or one below every power) searches to the field 0. -/
theorem search_neg {v : EReal} (hv : v < 0) :
    search (fun c => decide (v < Ideal.ofBits .f32 (c <<< 23))) = 0#32 := by
  rw [show (0#32 : BitVec 32) = BitVec.ofNat 32 ((⟨0, by omega⟩ : Fin 256)).val from rfl, ← search_lt]
  rw [search_congr (t' := fun _ => true)]
  · decide
  · intro c hc
    rw [show c = BitVec.ofNat 32 c.toNat by simp, ofBits_f32_exp ⟨c.toNat, hc⟩]
    exact decide_eq_true (hv.trans_le (Pw_nonneg _))

theorem bexp_neg {v : EReal} (hv : v < 0) : bexp v = 0 := by
  classical
  unfold bexp
  rw [Nat.findGreatest_eq_zero_iff]
  intro n _ _ h
  exact absurd (hv.trans_le (Pw_nonneg n)) (not_lt.mpr h)

/-- The search, whatever the sign of `v`. -/
theorem search_eq (v : EReal) :
    search (fun c => decide (v < Ideal.ofBits .f32 (c <<< 23))) = BitVec.ofNat 32 (bexp v) := by
  rcases lt_or_ge v 0 with h | h
  · rw [search_neg h, bexp_neg h]
  · exact search_spec h

end Cert.Hand

end
-- ==== Proof.SumPay.lean ====
/- What one tile of the dequantised sum is worth: the payloads of the summing loop read at an index. -/
module

public import proofs.«01_k».proof.Proof.Gen.KernelIdeal.Skeleton
public import proofs.«01_k».proof.Proof.Exp
public import Idealize.ShloMosaic.Lib.Pointwise
public import Idealize.ShloMosaic.Lib.BitcastPair

@[expose] public section

set_option maxRecDepth 16384

noncomputable section

namespace Cert.Hand

open Idealize.ShloMosaic Cert.KernelIdeal Cert.KernelIdeal.Gen

/-- The scale that the words `w` hold for shard `s`, row `r` and lane `l` of half tile `c`: two rows share a word. -/
def scOf (w : IVec S128x256 32) (s : Fin 8) (r : Fin 32) (c : Fin 2) (l : Fin 128) : EReal :=
  Ideal.ofBits .bf16 ((w (ix2 ⟨16 * s.val + r.val / 2, by omega⟩ ⟨128 * c.val + l.val, by omega⟩)).extractLsb'
    (16 * (r.val % 2)) 16)

/-- Eight rows of words read as sixteen rows of bf16. -/
theorem words_apply (w : IVec S8x128 32) (h : S8x128.Bitcasts 32 S16x128 16) (r : Fin 16) (l : Fin 128) :
    bitcast S16x128 16 w h (ix2 r l) = (w (ix2 ⟨r.val / 2, by omega⟩ l)).extractLsb' (16 * (r.val % 2)) 16 := by
  rw [bitcast_32_16]
  have hr : S16x128.row (ix2 r l) = r.val := rfl
  have : h.srcIdx (ix2 r l) (S16x128.row (ix2 r l) / 2) (fun a ha => by
        have := h.pos_lt (ix2 r l) 0 (by decide) a ha; omega) = ix2 ⟨r.val / 2, by omega⟩ l := by
    funext a
    match a with
    | ⟨0, _⟩ => apply Fin.ext; rw [Shape.Bitcasts.srcIdx_row _ _ _ _ _ rfl]; rfl
    | ⟨1, _⟩ => apply Fin.ext; rw [Shape.Bitcasts.srcIdx_other _ _ _ _ _ (fun h => absurd h (by show ¬ (1 + 2 = 2); omega))]; rfl
  rw [this, hr]

theorem words_apply' (w : IVec S8x128 32) (h : S8x128.Bitcasts 32 S16x128 16) (j : S16x128.Idx) :
    bitcast S16x128 16 w h j = (w (ix2 ⟨(j 0).val / 2, by have : (j 0).val < 16 := (j 0).isLt; omega⟩ (j 1))).extractLsb' (16 * ((j 0).val % 2)) 16 := by
  have := words_apply w h (j 0) (j 1)
  rw [← this]; exact congrArg _ (eq_ix2 j)

/-- The new residual on the left half of a tile, before its last two additions. -/
def preTile0 (L : Vec Ideal S1x1x128x256 .bf16) (W : Vec Ideal S1x256x256 .bf16) (P : Fin 8 → Vec Ideal S1x32x128 .fp8e4m3)
    (b : Vec Ideal S1x128 .f32) : FVec Ideal S32x128 .f32 :=
  let w := k0_pay42 L W
  k0_pay51 w (k0_pay48 (k0_pay46 w (k0_pay43 L W (P 0) (P 1)) (k0_pay44 L W) (k0_pay45 (P 2)) (P 3) (P 4) (P 5) (P 6)) (k0_pay47 (F := Ideal) w) (P 7))
    (k0_pay49 w (P 0) (P 1) (P 2) (P 3)) (k0_pay50 w) (P 4) (P 5) (P 6) (P 7) b

/-- The new residual on the left half of a tile. -/
def nrTile0 (L : Vec Ideal S1x1x128x256 .bf16) (W : Vec Ideal S1x256x256 .bf16) (P : Fin 8 → Vec Ideal S1x32x128 .fp8e4m3)
    (b : Vec Ideal S1x128 .f32) (x : Vec Ideal S32x128 .bf16) : FVec Ideal S32x128 .bf16 :=
  k0_pay52 (preTile0 L W P b) x

/-- The new residual on the right half of a tile. -/
def nrTile1 (L : Vec Ideal S1x1x128x256 .bf16) (W : Vec Ideal S1x256x256 .bf16) (P : Fin 8 → Vec Ideal S1x32x128 .fp8e4m3)
    (b : Vec Ideal S1x128 .f32) (x : Vec Ideal S32x128 .bf16) : FVec Ideal S32x128 .bf16 :=
  let w := k0_pay42 L W
  k0_pay60 w (k0_pay56 w (k0_pay54 w (P 0) (P 1) (P 2)) (k0_pay55 (F := Ideal) w) (P 3) (P 4) (P 5) (P 6) (P 7))
    (k0_pay57 w (P 0) (P 1) (P 2) (P 3)) (k0_pay58 (F := Ideal) w) (k0_pay59 (P 4)) (P 5) (P 6) (P 7) b x

/-- Half a word index: the second sixteen rows of a tile take the words eight rows further down. -/
theorem shift_eqs (r : ℕ) (h : ¬ r < 16) : 16 + (r - 16) = r ∧ (r - 16) % 2 = r % 2 ∧ (r - 16) / 2 = r / 2 - 8
    ∧ 8 + (r / 2 - 8) = r / 2 ∧ 24 + (r / 2 - 8) = 16 + r / 2 ∧ 40 + (r / 2 - 8) = 32 + r / 2 ∧ 56 + (r / 2 - 8) = 48 + r / 2
    ∧ 72 + (r / 2 - 8) = 64 + r / 2 ∧ 88 + (r / 2 - 8) = 80 + r / 2 ∧ 104 + (r / 2 - 8) = 96 + r / 2
    ∧ 120 + (r / 2 - 8) = 112 + r / 2 := by omega

/-- What a tile is worth: the eight shards' codes times their scales, the bias and the residual. -/
def tileAt (w : IVec S128x256 32) (P : Fin 8 → Vec Ideal S1x32x128 .fp8e4m3) (b : Vec Ideal S1x128 .f32)
    (x : Vec Ideal S32x128 .bf16) (c : Fin 2) (r : Fin 32) (l : Fin 128) : EReal :=
  (∑ s, (P s (ix3 0 r l) : EReal) * scOf w s r c l) + b (ix2 0 l) + x (ix2 r l)

theorem nrTile0_apply (L : Vec Ideal S1x1x128x256 .bf16) (W : Vec Ideal S1x256x256 .bf16)
    (P : Fin 8 → Vec Ideal S1x32x128 .fp8e4m3) (b : Vec Ideal S1x128 .f32) (x : Vec Ideal S32x128 .bf16) (r : Fin 32) (l : Fin 128) :
    nrTile0 L W P b x (ix2 r l) = tileAt (k0_pay42 L W) P b x 0 r l := by
  unfold nrTile0 preTile0 k0_pay43 k0_pay44 k0_pay52 k0_pay51 k0_pay48 k0_pay46 k0_pay45 k0_pay47 k0_pay49 k0_pay50 tileAt
  generalize k0_pay42 L W = w
  by_cases h : r.val < 16
  · pointwise [words_apply', dif_pos h, h, scOf, Fin.sum_univ_eight]
  · obtain ⟨e1, e2, e3, e4, e5, e6, e7, e8, e9, e10, e11⟩ := shift_eqs r.val h
    pointwise [words_apply', dif_neg h, h, scOf, Fin.sum_univ_eight, e1, e2, e3, e4, e5, e6, e7, e8, e9, e10, e11]

theorem nrTile1_apply (L : Vec Ideal S1x1x128x256 .bf16) (W : Vec Ideal S1x256x256 .bf16)
    (P : Fin 8 → Vec Ideal S1x32x128 .fp8e4m3) (b : Vec Ideal S1x128 .f32) (x : Vec Ideal S32x128 .bf16) (r : Fin 32) (l : Fin 128) :
    nrTile1 L W P b x (ix2 r l) = tileAt (k0_pay42 L W) P b x 1 r l := by
  unfold nrTile1 k0_pay54 k0_pay55 k0_pay56 k0_pay57 k0_pay58 k0_pay59 k0_pay60 tileAt
  generalize k0_pay42 L W = w
  by_cases h : r.val < 16
  · pointwise [words_apply', dif_pos h, h, scOf, Fin.sum_univ_eight]
  · obtain ⟨e1, e2, e3, e4, e5, e6, e7, e8, e9, e10, e11⟩ := shift_eqs r.val h
    pointwise [words_apply', dif_neg h, h, scOf, Fin.sum_univ_eight, e1, e2, e3, e4, e5, e6, e7, e8, e9, e10, e11]

/-- The running sum of squares after a tile's left half and after its right half. -/
theorem sumsq_apply (acc : FVec Ideal S32x128 .f32) (L : Vec Ideal S1x1x128x256 .bf16) (W : Vec Ideal S1x256x256 .bf16)
    (P : Fin 8 → Vec Ideal S1x32x128 .fp8e4m3) (b : Vec Ideal S1x128 .f32) (x : Vec Ideal S32x128 .bf16)
    (P' : Fin 8 → Vec Ideal S1x32x128 .fp8e4m3) (b' : Vec Ideal S1x128 .f32) (x' : Vec Ideal S32x128 .bf16) (r : Fin 32) (l : Fin 128) :
    k0_pay136 (k0_pay53 acc (preTile0 L W P b) x) (nrTile1 L W P' b' x') (ix2 r l)
      = acc (ix2 r l) + tileAt (k0_pay42 L W) P b x 0 r l * tileAt (k0_pay42 L W) P b x 0 r l
          + tileAt (k0_pay42 L W) P' b' x' 1 r l * tileAt (k0_pay42 L W) P' b' x' 1 r l := by
  have h0 := nrTile0_apply L W P b x r l
  have h1 := nrTile1_apply L W P' b' x' r l
  unfold nrTile0 at h0
  rw [← h0, ← h1]
  generalize nrTile1 L W P' b' x' = t1
  unfold k0_pay136 k0_pay53
  generalize k0_pay52 (preTile0 L W P b) x = t0
  pointwise

/-- One word: the selection product, rounded and taken as an integer. -/
theorem words_eq (L : Vec Ideal S1x1x128x256 .bf16) (W : Vec Ideal S1x256x256 .bf16) (r : Fin 128) (l : Fin 256) :
    k0_pay42 L W (ix2 r l) = Ideal.fptosi 32 (Ideal.liftRound Ideal.roundHalfEven (∑ k, (L (ix4 0 0 r k) : EReal) * W (ix3 0 k l))) := by
  unfold k0_pay42
  pointwise [dot_S128x256_S256x256_S128x256_1_0_0_1_n_n]
  rfl

/-- A natural number below `2 ^ 31` rounds to itself. -/
theorem fptosi_nat (n : ℕ) (h : n < 2 ^ 31) :
    Ideal.fptosi 32 (Ideal.liftRound Ideal.roundHalfEven (((n : ℝ) : EReal))) = BitVec.ofNat 32 n := by
  have h1 : Ideal.liftRound Ideal.roundHalfEven (((n : ℝ) : EReal)) = ((n : ℝ) : EReal) := by
    show (((Ideal.roundHalfEven (n : ℝ) : ℤ) : ℝ) : EReal) = _
    have : Ideal.roundHalfEven (n : ℝ) = (n : ℤ) := by
      unfold Ideal.roundHalfEven; simp
    rw [this]; simp
  rw [h1]
  have : BitVec.ofNat 32 n = BitVec.ofInt 32 (n : ℤ) := by simp
  rw [this]
  show BitVec.ofInt 32 (max (-((2 ^ 31 : ℕ) : ℤ)) (min (((2 ^ 31 : ℕ) : ℤ) - 1) (if (0 : ℝ) ≤ (n : ℝ) then ⌊(n : ℝ)⌋ else ⌈(n : ℝ)⌉))) = _
  congr 1
  rw [if_pos (Nat.cast_nonneg n), Int.floor_natCast]
  omega

/-- The words of a tile whose left factor holds the odd rows' fields `A` at `2 ^ 23` and the even rows' fields `B` at
    `2 ^ 7`, and whose right factor selects group `8 * m + lane / 32`. -/
theorem words_val (L : Vec Ideal S1x1x128x256 .bf16) (W : Vec Ideal S1x256x256 .bf16) (A B : Fin 128 → Fin 128 → ℕ)
    (hA : ∀ r l, A r l < 256) (hB : ∀ r l, B r l < 256) (m : ℕ) (hm : m < 16)
    (h0 : ∀ r (l : Fin 128), (L (ix4 0 0 r ⟨l.val, by omega⟩) : EReal) = (((2 ^ 23 * A r l : ℕ) : ℝ) : EReal))
    (h1 : ∀ r (l : Fin 128), (L (ix4 0 0 r ⟨128 + l.val, by omega⟩) : EReal) = (((2 ^ 7 * B r l : ℕ) : ℝ) : EReal))
    (hW : ∀ (k l : Fin 256), (W (ix3 0 k l) : EReal) = if k.val % 128 = 8 * m + l.val / 32 then 1 else 0)
    (r : Fin 128) (l : Fin 256) :
    k0_pay42 L W (ix2 r l) = BitVec.ofNat 32 (2 ^ 23 * A r ⟨8 * m + l.val / 32, by omega⟩ + 2 ^ 7 * B r ⟨8 * m + l.val / 32, by omega⟩) := by
  have hs : (∑ k : Fin 256, (L (ix4 0 0 r k) : EReal) * W (ix3 0 k l))
      = (((2 ^ 23 * A r ⟨8 * m + l.val / 32, by omega⟩ + 2 ^ 7 * B r ⟨8 * m + l.val / 32, by omega⟩ : ℕ) : ℝ) : EReal) := by
    have := Fin.sum_univ_add (a := 128) (b := 128) fun k : Fin 256 => (L (ix4 0 0 r k) : EReal) * W (ix3 0 k l)
    refine this.trans ?_
    rw [Nat.cast_add, EReal.coe_add]
    congr 1
    · rw [Finset.sum_eq_single (⟨8 * m + l.val / 32, by omega⟩ : Fin 128)]
      · have e : Fin.castAdd 128 (⟨8 * m + l.val / 32, by omega⟩ : Fin 128) = (⟨(⟨8 * m + l.val / 32, by omega⟩ : Fin 128).val, by have := l.isLt; show 8 * m + l.val / 32 < 256; omega⟩ : Fin 256) := rfl
        rw [e, h0, hW, if_pos (by show (8 * m + l.val / 32) % 128 = _; omega), mul_one]
      · intro k _ hk
        rw [hW, if_neg, mul_zero]
        intro h; apply hk; apply Fin.ext
        have h' : k.val % 128 = 8 * m + l.val / 32 := h
        show k.val = 8 * m + l.val / 32; have := k.isLt; have : l.val < 256 := l.isLt; omega
      · intro h; exact absurd (Finset.mem_univ _) h
    · rw [Finset.sum_eq_single (⟨8 * m + l.val / 32, by omega⟩ : Fin 128)]
      · have e : Fin.natAdd 128 (⟨8 * m + l.val / 32, by omega⟩ : Fin 128) = (⟨128 + (⟨8 * m + l.val / 32, by omega⟩ : Fin 128).val, by have := l.isLt; show 128 + (8 * m + l.val / 32) < 256; omega⟩ : Fin 256) := rfl
        rw [e, h1, hW, if_pos (by show (128 + (8 * m + l.val / 32)) % 128 = _; omega), mul_one]
      · intro k _ hk
        rw [hW, if_neg, mul_zero]
        intro h; apply hk; apply Fin.ext
        have : (128 + k.val) % 128 = 8 * m + l.val / 32 := h
        show k.val = 8 * m + l.val / 32; have := k.isLt; have : l.val < 256 := l.isLt; omega
      · intro h; exact absurd (Finset.mem_univ _) h
  rw [words_eq, hs, fptosi_nat]
  have := hA r ⟨8 * m + l.val / 32, by omega⟩
  have := hB r ⟨8 * m + l.val / 32, by omega⟩
  omega

/-- The scales of such a tile. -/
theorem scOf_val (L : Vec Ideal S1x1x128x256 .bf16) (W : Vec Ideal S1x256x256 .bf16) (A B : Fin 128 → Fin 128 → ℕ)
    (hA : ∀ r l, A r l < 256) (hB : ∀ r l, B r l < 256) (m : ℕ) (hm : m < 16)
    (h0 : ∀ r (l : Fin 128), (L (ix4 0 0 r ⟨l.val, by omega⟩) : EReal) = (((2 ^ 23 * A r l : ℕ) : ℝ) : EReal))
    (h1 : ∀ r (l : Fin 128), (L (ix4 0 0 r ⟨128 + l.val, by omega⟩) : EReal) = (((2 ^ 7 * B r l : ℕ) : ℝ) : EReal))
    (hW : ∀ (k l : Fin 256), (W (ix3 0 k l) : EReal) = if k.val % 128 = 8 * m + l.val / 32 then 1 else 0)
    (s : Fin 8) (r : Fin 32) (c : Fin 2) (l : Fin 128) :
    scOf (k0_pay42 L W) s r c l
      = Pw (if r.val % 2 = 0 then B ⟨16 * s.val + r.val / 2, by omega⟩ ⟨8 * m + 4 * c.val + l.val / 32, by omega⟩
          else A ⟨16 * s.val + r.val / 2, by omega⟩ ⟨8 * m + 4 * c.val + l.val / 32, by omega⟩) := by
  unfold scOf
  rw [words_val L W A B hA hB m hm h0 h1 hW]
  have e : (⟨8 * m + (⟨128 * c.val + l.val, by omega⟩ : Fin 256).val / 32, by
      show 8 * m + (128 * c.val + l.val) / 32 < 128; omega⟩ : Fin 128) = ⟨8 * m + 4 * c.val + l.val / 32, by omega⟩ := by
    apply Fin.ext; show 8 * m + (128 * c.val + l.val) / 32 = 8 * m + 4 * c.val + l.val / 32; omega
  rw [e]
  generalize (⟨8 * m + 4 * c.val + l.val / 32, by omega⟩ : Fin 128) = g
  generalize (⟨16 * s.val + r.val / 2, by omega⟩ : Fin 128) = q
  have ha := hA q g
  have hb := hB q g
  generalize A q g = a at *
  generalize B q g = b at *
  rcases Nat.mod_two_eq_zero_or_one r.val with h | h
  · rw [h, if_pos rfl, ← ofBits_bf16_exp ⟨b, hb⟩]
    congr 1
    apply BitVec.eq_of_toNat_eq
    simp only [BitVec.extractLsb'_toNat, BitVec.toNat_ofNat, Nat.shiftRight_eq_div_pow]
    omega
  · rw [h, if_neg (by decide), ← ofBits_bf16_exp ⟨a, ha⟩]
    congr 1
    apply BitVec.eq_of_toNat_eq
    simp only [BitVec.extractLsb'_toNat, BitVec.toNat_ofNat, Nat.shiftRight_eq_div_pow]
    omega

end Cert.Hand

end
-- ==== Proof.TilePay.lean ====
/- What the other payloads of the kernel are worth: the exponent fields of the scales, the normalised rows, the group scales
   and the codes, read at an index. -/
module

public import proofs.«01_k».proof.Proof.SumPay

@[expose] public section

set_option maxRecDepth 16384

noncomputable section

namespace Cert.Hand

open Idealize.ShloMosaic Cert.KernelIdeal Cert.KernelIdeal.Gen

/-- One step of the vector search. -/
def vstep {s : Shape} (V : FVec Ideal s .f32) (w : BitVec 32) (E : IVec s 32) : IVec s 32 :=
  select (cmpf .olt V (bitcastToFloat .f32 (shli (addi E (broadcast s w)) (broadcast s 23#32)))) E (addi E (broadcast s w))

theorem shli_23 (x : BitVec 32) : IntOp.shli .vector x 23#32 = x <<< 23 := by
  unfold IntOp.shli
  rw [if_pos (by decide)]
  exact BitVec.shiftLeft_eq' (y := 23#32)

theorem vstep_apply {s : Shape} (V : FVec Ideal s .f32) (w : BitVec 32) (E : IVec s 32) (j : s.Idx) :
    vstep V w E j = step (fun c => decide ((V j : EReal) < Ideal.ofBits .f32 (c <<< 23))) w (E j) := by
  unfold vstep step
  pointwise [shli_23]
  simp only [decide_eq_true_eq]
  rfl

/-- The whole vector search. -/
def vsearch {s : Shape} (V : FVec Ideal s .f32) : IVec s 32 :=
  vstep V 1#32 (vstep V 2#32 (vstep V 4#32 (vstep V 8#32 (vstep V 16#32 (vstep V 32#32 (vstep V 64#32
    (vstep V 128#32 (broadcast s 0#32))))))))

theorem vsearch_apply {s : Shape} (V : FVec Ideal s .f32) (j : s.Idx) : vsearch V j = BitVec.ofNat 32 (bexp (V j)) := by
  rw [← search_eq]
  unfold vsearch search
  simp only [vstep_apply]
  rfl

/-! ### The left factors -/

/-- The exponent fields of one shard's scales, zero in the groups past the last. -/
def eOf (v : Vec Ideal S1x1x224x128 .f32) (g : Fin 256) (r : Fin 128) : ℕ :=
  if h : g.val < 224 then bexp (v (ix4 0 0 ⟨g.val, h⟩ r)) else 0

theorem eOf_lt (v : Vec Ideal S1x1x224x128 .f32) (g : Fin 256) (r : Fin 128) : eOf v g r < 256 := by
  unfold eOf
  split
  · have := bexp_le (v (ix4 0 0 ⟨g.val, by assumption⟩ r)); omega
  · omega

/-- The left factor of one shard: row `t` of the first half holds the odd rows' fields, of the second half the even rows'. -/
def oTile (v : Vec Ideal S1x1x224x128 .f32) : FVec Ideal S128x256 .bf16 :=
  k0_pay30 k0_pay127 (k0_pay26 v) (k0_pay27 v) (k0_pay28 v) (k0_pay29 v)

/-- The fields as the product takes them. -/
def qTile (v : Vec Ideal S1x1x224x128 .f32) : FVec Ideal S256x128 .bf16 :=
  truncf .bf16 (concatenate S256x128 0 [⟨S224x128, sitofp .f32 (vsearch (k0_pay26 v))⟩,
    ⟨S32x128, broadcast S32x128 (Scalar.ofBits .f32 0x00000000#32 : Ideal .f32)⟩] concatenates_S224x128_S32x128_S256x128_d0) bitsLt_bf16_f32

theorem oTile_eq (v : Vec Ideal S1x1x224x128 .f32) :
    oTile v = truncf .bf16 (matmul dot_S128x128_S256x128_S128x256_1_1_0_0_n_n none k0_pay127 (qTile v)
      (constant S128x256 .f32 0x00000000#32)) bitsLt_bf16_f32 := rfl

theorem qTile_apply (v : Vec Ideal S1x1x224x128 .f32) (g : Fin 256) (r : Fin 128) :
    (qTile v (ix2 g r) : EReal) = ((eOf v g r : ℝ) : EReal) := by
  unfold qTile eOf
  by_cases h : g.val < 224
  · pointwise [dif_pos h, h, vsearch_apply]
    unfold k0_pay26
    pointwise
    have := bexp_le (v (ix4 0 0 ⟨g.val, h⟩ r))
    generalize bexp (v (ix4 0 0 ⟨g.val, h⟩ r)) = n at *
    show (((BitVec.ofNat 32 n).toInt : ℝ) : EReal) = _
    congr 1
    have : (BitVec.ofNat 32 n).toInt = n := by
      rw [BitVec.toInt_eq_toNat_cond, BitVec.toNat_ofNat, Nat.mod_eq_of_lt (by omega), if_pos (by omega)]
    rw [this]; simp
  · pointwise [dif_neg h, h]
    simp

theorem pick_apply (t r : Fin 128) :
    (k0_pay127 (F := Ideal) (ix2 t r) : EReal)
      = if r.val = 2 * t.val + 1 then (((2 ^ 23 : ℕ) : ℝ) : EReal) else if 128 + r.val = 2 * t.val then (((2 ^ 7 : ℕ) : ℝ) : EReal) else 0 := by
  have h1 : Ideal.ofBits .f32 0x4B000000#32 = (((2 ^ 23 : ℕ) : ℝ) : EReal) := by
    rw [show (0x4B000000#32 : BitVec 32) = BitVec.ofNat 32 ((⟨150, by omega⟩ : Fin 256)).val <<< 23 from by decide, ofBits_f32_exp,
      Pw_of_lt (by decide) (by decide)]
    norm_num
  have h2 : Ideal.ofBits .f32 0x43000000#32 = (((2 ^ 7 : ℕ) : ℝ) : EReal) := by
    rw [show (0x43000000#32 : BitVec 32) = BitVec.ofNat 32 ((⟨134, by omega⟩ : Fin 256)).val <<< 23 from by decide, ofBits_f32_exp,
      Pw_of_lt (by decide) (by decide)]
    norm_num
  have e1 : IntOp.cmpi .eq (BitVec.ofNat 32 r.val) (IntOp.addi (IntOp.muli (2#32) (BitVec.ofNat 32 t.val)) 1#32)
      = BitVec.ofBool (decide (r.val = 2 * t.val + 1)) := by
    show BitVec.ofBool (BitVec.ofNat 32 r.val == 2#32 * BitVec.ofNat 32 t.val + 1#32) = _
    congr 1
    rw [Bool.beq_eq_decide_eq]
    congr 1
    rw [← BitVec.toNat_inj]
    simp only [BitVec.toNat_add, BitVec.toNat_mul, BitVec.toNat_ofNat]
    apply propext; omega
  have e2 : IntOp.cmpi .eq (BitVec.ofNat 32 r.val) (IntOp.subi (IntOp.muli (2#32) (BitVec.ofNat 32 t.val)) 128#32)
      = BitVec.ofBool (decide (128 + r.val = 2 * t.val)) := by
    show BitVec.ofBool (BitVec.ofNat 32 r.val == 2#32 * BitVec.ofNat 32 t.val - 128#32) = _
    congr 1
    rw [Bool.beq_eq_decide_eq]
    congr 1
    rw [← BitVec.toNat_inj]
    simp only [BitVec.toNat_sub, BitVec.toNat_mul, BitVec.toNat_ofNat]
    apply propext; omega
  unfold k0_pay127
  pointwise [e1, e2, h1, h2, Scalar.select_ofBool, decide_eq_true_eq]
  by_cases a : r.val = 2 * t.val + 1
  · rw [if_pos a, if_pos a, if_neg (by omega), add_zero]
  · rw [if_neg a, if_neg a, zero_add]

theorem oTile_apply (v : Vec Ideal S1x1x224x128 .f32) (t : Fin 128) (g : Fin 256) :
    (oTile v (ix2 t g) : EReal)
      = if h : t.val < 64 then (((2 ^ 23 * eOf v g ⟨2 * t.val + 1, by omega⟩ : ℕ) : ℝ) : EReal)
        else (((2 ^ 7 * eOf v g ⟨2 * (t.val - 64), by omega⟩ : ℕ) : ℝ) : EReal) := by
  rw [oTile_eq]
  pointwise [dot_S128x128_S256x128_S128x256_1_1_0_0_n_n, qTile_apply, pick_apply]
  by_cases h : t.val < 64
  · rw [dif_pos h, Finset.sum_eq_single (⟨2 * t.val + 1, by omega⟩ : Fin 128)]
    · rw [if_pos rfl, ← EReal.coe_mul, ← Nat.cast_mul]
    · intro k _ hk
      rw [if_neg (fun e => hk (Fin.ext e)), if_neg (by omega), zero_mul]
    · intro hh; exact absurd (Finset.mem_univ _) hh
  · rw [dif_neg h, Finset.sum_eq_single (⟨2 * (t.val - 64), by omega⟩ : Fin 128)]
    · rw [if_neg (by show ¬ 2 * (t.val - 64) = 2 * t.val + 1; omega), if_pos (by show 128 + 2 * (t.val - 64) = 2 * t.val; omega),
        ← EReal.coe_mul, ← Nat.cast_mul]
    · intro k _ hk
      rw [if_neg (by have := k.isLt; omega), if_neg (fun e => hk (Fin.ext (by show k.val = 2 * (t.val - 64); omega))), zero_mul]
    · intro hh; exact absurd (Finset.mem_univ _) hh

/-! ### The scale of a row -/

/-- The reciprocal root mean square of the rows of a block from the sums of squares of its lanes. -/
def rsOf (ss : FVec Ideal S32x128 .f32) (r : Fin 32) : EReal :=
  Ideal.rsqrt ((∑ l : Fin 128, (ss (ix2 r l) : EReal)) * ((1 / 7168 : ℝ) : EReal) + Ideal.ofBits .f32 0x358637BD#32)

theorem inv_d_eq : (Named.named (F := Ideal) (φ := .f32) κ "inv_d" 0x39124925#32 : EReal) = ((1 / 7168 : ℝ) : EReal) :=
  IdealRules.named_const.ideal_named_scalar _ _ _ _ rfl

theorem rs0_apply (ss : FVec Ideal S32x128 .f32) (r : Fin 32) : k0_pay137 ss (ix2 r 0) = rsOf ss r := by
  unfold k0_pay137 rsOf
  pointwise [inv_d_eq]

theorem rs_apply (s0 s1 s2 s3 : FVec Ideal S32x128 .f32) (r : Fin 128) :
    k0_pay144 (k0_pay137 s0) s1 s2 s3 (ix2 r 0)
      = rsOf (if r.val < 32 then s0 else if r.val < 64 then s1 else if r.val < 96 then s2 else s3) ⟨r.val % 32, by omega⟩ := by
  unfold k0_pay144
  pointwise [rs0_apply, inv_d_eq]
  by_cases h0 : r.val < 32
  · rw [dif_pos h0, if_pos h0]; congr 1; apply Fin.ext; show r.val = r.val % 32; omega
  rw [dif_neg h0, if_neg h0]
  by_cases h1 : r.val < 64
  · rw [dif_pos (by omega), if_pos h1, show (⟨r.val % 32, by omega⟩ : Fin 32) = ⟨r.val - 32, by omega⟩ from Fin.ext (by show r.val % 32 = r.val - 32; omega)]
    rfl
  rw [dif_neg (by omega), if_neg h1]
  by_cases h2 : r.val < 96
  · rw [dif_pos (by omega), if_pos h2, show (⟨r.val % 32, by omega⟩ : Fin 32) = ⟨r.val - 32 - 32, by omega⟩ from Fin.ext (by show r.val % 32 = r.val - 32 - 32; omega)]
    rfl
  rw [dif_neg (by omega), if_neg h2, show (⟨r.val % 32, by omega⟩ : Fin 32) = ⟨r.val - 32 - 32 - 32, by omega⟩ from Fin.ext (by show r.val % 32 = r.val - 32 - 32 - 32; omega)]
  rfl

/-! ### Normalised rows, group scales and codes -/

theorem y_apply (rs : FVec Ideal S128x1 .f32) (x : Vec Ideal S128x128 .bf16) (g : Vec Ideal S1x128 .f32) (r l : Fin 128) :
    k0_pay118 rs x g (ix2 r l) = (x (ix2 r l) : EReal) * rs (ix2 r 0) * g (ix2 0 l) := by
  unfold k0_pay118
  pointwise

theorem y_apply' (rs : FVec Ideal S128x1 .f32) (x : Vec Ideal S128x128 .bf16) (g : Vec Ideal S1x128 .f32) (r l : Fin 128) :
    k0_pay119 rs x g (ix2 r l) = (x (ix2 r l) : EReal) * rs (ix2 r 0) * g (ix2 0 l) := by
  unfold k0_pay119
  pointwise [y_apply]

/-- The largest magnitude among the 32 lanes of a group, times the reciprocal of the largest code, from the normalised row. -/
def amaxOf (y : Fin 32 → EReal) : EReal :=
  Finset.univ.fold max (Ideal.ofBits .f32 0xFF800000#32) (fun i => max (y i) (-y i)) * Ideal.ofBits .f32 0x3B124925#32

theorem amax_apply (rs : FVec Ideal S128x1 .f32) (x : Vec Ideal S128x128 .bf16) (g : Vec Ideal S1x128 .f32) (q : Fin 4) (r : Fin 128) :
    k0_pay120 rs x g (ix2 q r) = amaxOf fun i : Fin 32 => k0_pay118 rs x g (ix2 r ⟨32 * q.val + i.val, by omega⟩) := by
  unfold k0_pay120 amaxOf
  generalize k0_pay118 rs x g = y
  pointwise [Ideal.absf_def]
  simp only [Nat.mul_comm]

/-- The scale's exponent field from the field of `amax / 448`: one more, and 127 (the scale one) at zero. -/
def sb (v : EReal) : BitVec 32 := if bexp v = 0 then 127#32 else BitVec.ofNat 32 (bexp v) + 1#32

theorem sb_apply (rs : FVec Ideal S128x1 .f32) (x : Vec Ideal S128x128 .bf16) (g : Vec Ideal S1x128 .f32) (j : S4x128.Idx) :
    k0_pay122 (k0_pay120 rs x g) (k0_pay121 rs x g) j = sb (k0_pay120 rs x g j) := by
  have h : k0_pay122 (k0_pay120 rs x g) (k0_pay121 rs x g)
      = select (cmpi .eq (vsearch (k0_pay120 rs x g)) (broadcast S4x128 0#32)) (broadcast S4x128 127#32)
          (addi (vsearch (k0_pay120 rs x g)) (broadcast S4x128 1#32)) := rfl
  rw [h]
  generalize k0_pay120 rs x g = v
  pointwise [vsearch_apply]
  unfold sb
  have := bexp_le (v j)
  generalize bexp (v j) = n at *
  have e : IntOp.cmpi .eq (BitVec.ofNat 32 n) 0#32 = BitVec.ofBool (decide (n = 0)) := by
    show BitVec.ofBool (BitVec.ofNat 32 n == 0#32) = _
    congr 1
    rw [Bool.beq_eq_decide_eq]
    congr 1
    rw [← BitVec.toNat_inj]
    simp only [BitVec.toNat_ofNat]
    apply propext; omega
  rw [e, Scalar.select_ofBool]
  by_cases hn : n = 0 <;> simp [hn, IntOp.addi]

/-- A group's scale, and its reciprocal. -/
def ysOf (v : EReal) : EReal := Ideal.ofBits .f32 (sb v <<< 23)
def ivOf (v : EReal) : EReal := Ideal.ofBits .f32 ((254#32 - sb v) <<< 23)

theorem ys_apply (rs : FVec Ideal S128x1 .f32) (x : Vec Ideal S128x128 .bf16) (g : Vec Ideal S1x128 .f32) (q : Fin 4) (r : Fin 128) :
    k0_pay145 (k0_pay123 (k0_pay120 rs x g) (k0_pay121 rs x g)) (ix3 0 q r) = ysOf (k0_pay120 rs x g (ix2 q r)) := by
  unfold k0_pay145 k0_pay123 ysOf
  pointwise [sb_apply, shli_23]

theorem iv_apply (rs : FVec Ideal S128x1 .f32) (x : Vec Ideal S128x128 .bf16) (g : Vec Ideal S1x128 .f32) (q : Fin 4) (r : Fin 128) :
    k0_pay146 (F := Ideal) (k0_pay122 (k0_pay120 rs x g) (k0_pay121 rs x g)) (ix2 q r) = ivOf (k0_pay120 rs x g (ix2 q r)) := by
  unfold k0_pay146 ivOf
  pointwise [sb_apply, shli_23]
  rfl

/-- A code before its change of format: the quotient, clipped. -/
def clip (z : EReal) : EReal := min (Ideal.ofBits .f32 0x43E00000#32) (max (Ideal.ofBits .f32 0xC3E00000#32) z)

theorem lane_apply : ∀ l : Fin 128, k0_pay1 (ix2 (0 : Fin 128) l) = BitVec.ofNat 32 (l.val / 32) := by
  decide +kernel

theorem lane_apply' (r l : Fin 128) : k0_pay1 (ix2 r l) = BitVec.ofNat 32 (l.val / 32) := by
  rw [← lane_apply l]; rfl

/-- The lane a code's scale is taken from. -/
theorem lane_pick (l : Fin 128) (k : ℕ) (hk : k < 32) :
    (Scalar.select (IntOp.cmpi .slt (IntOp.addi (BitVec.ofNat 32 (l.val / 32)) (Scalar.muli 4#32 (Scf.iv 0#32 1#32 k))) 0#32)
      (IntOp.addi (IntOp.addi (BitVec.ofNat 32 (l.val / 32)) (Scalar.muli 4#32 (Scf.iv 0#32 1#32 k))) 128#32)
      (IntOp.addi (BitVec.ofNat 32 (l.val / 32)) (Scalar.muli 4#32 (Scf.iv 0#32 1#32 k)))).toNat % 128 = 4 * k + l.val / 32 := by
  have : ∀ (q : Fin 4) (k : Fin 32), (Scalar.select (IntOp.cmpi .slt (IntOp.addi (BitVec.ofNat 32 q.val) (Scalar.muli 4#32 (Scf.iv 0#32 1#32 k.val))) 0#32)
      (IntOp.addi (IntOp.addi (BitVec.ofNat 32 q.val) (Scalar.muli 4#32 (Scf.iv 0#32 1#32 k.val))) 128#32)
      (IntOp.addi (BitVec.ofNat 32 q.val) (Scalar.muli 4#32 (Scf.iv 0#32 1#32 k.val)))).toNat % 128 = 4 * k.val + q.val := by decide +kernel
  exact this ⟨l.val / 32, by omega⟩ ⟨k, hk⟩

theorem code_apply (iv : Vec Ideal S128x128 .f32) (k : Fin k0_t7_loop.trips) (y : Vec Ideal S128x128 .f32) (r l : Fin 128) :
    k0_pay2 iv k y (ix2 r l) = clip ((y (ix2 r l) : EReal) * iv (ix2 ⟨(4 * k.val + l.val / 32) % 128, by omega⟩ r)) := by
  have hk : k.val < 32 := Nat.lt_of_lt_of_le k.isLt k0_t7_abs.2.1
  have e := lane_pick l k.val hk
  unfold k0_pay2 clip
  have e' : (4 * k.val + l.val / 32) % 128 = 4 * k.val + l.val / 32 := by omega
  pointwise [lane_apply', e, e']

theorem code_apply' (iv : Vec Ideal S128x128 .f32) (k : Fin k0_t8_loop.trips) (y : Vec Ideal S128x128 .f32) (r l : Fin 128) :
    k0_pay3 iv k y (ix2 r l) = clip ((y (ix2 r l) : EReal) * iv (ix2 ⟨(4 * k.val + l.val / 32) % 128, by omega⟩ r)) := by
  have hk : k.val < 24 := Nat.lt_of_lt_of_le k.isLt k0_t8_abs.2.1
  have e := lane_pick l k.val (by omega)
  unfold k0_pay3 clip
  have e' : (4 * k.val + l.val / 32) % 128 = 4 * k.val + l.val / 32 := by omega
  pointwise [lane_apply', e, e']

/-! ### The selection planes -/

theorem row_apply : ∀ k : Fin 256, k0_pay4 (ix2 k (0 : Fin 256)) = BitVec.ofNat 32 (k.val % 128) := by
  decide +kernel

theorem col_apply : ∀ l : Fin 256, k0_pay5 (ix2 (0 : Fin 256) l) = BitVec.ofNat 32 (l.val / 32) := by
  decide +kernel

theorem row_apply' (k l : Fin 256) : k0_pay4 (ix2 k l) = BitVec.ofNat 32 (k.val % 128) := by
  rw [← row_apply k]; rfl

theorem col_apply' (k l : Fin 256) : k0_pay5 (ix2 k l) = BitVec.ofNat 32 (l.val / 32) := by
  rw [← col_apply l]; rfl

/-- Row `k` of plane `m` selects the lanes of its group. -/
def wSel (m : ℕ) (k l : Fin 256) : EReal := if k.val % 128 = 8 * m + l.val / 32 then 1 else 0

theorem sel_apply (c : BitVec 32) (hc : c.toNat ≤ 120) (k l : Fin 256) :
    IntOp.cmpi .eq (BitVec.ofNat 32 (k.val % 128)) (IntOp.addi c (BitVec.ofNat 32 (l.val / 32)))
      = BitVec.ofBool (decide (k.val % 128 = c.toNat + l.val / 32)) := by
  show BitVec.ofBool (BitVec.ofNat 32 (k.val % 128) == c + BitVec.ofNat 32 (l.val / 32)) = _
  congr 1
  rw [Bool.beq_eq_decide_eq]
  congr 1
  rw [← BitVec.toNat_inj]
  simp only [BitVec.toNat_add, BitVec.toNat_ofNat]
  apply propext; omega

/-- The sixteen planes as the kernel's stores spell them. -/
theorem planes_apply (k l : Fin 256) :
    (k0_pay7 k0_pay6 (Scalar.ofBits .f32 0x3F800000#32 : Ideal .f32) (ix3 0 k l) : EReal) = wSel 0 k l
    ∧ (k0_pay8 (F := Ideal) k0_pay4 k0_pay5 (ix3 0 k l) : EReal) = wSel 1 k l
    ∧ (k0_pay9 (F := Ideal) k0_pay4 k0_pay5 (ix3 0 k l) : EReal) = wSel 2 k l
    ∧ (k0_pay11 (F := Ideal) (k0_pay10 k0_pay4 k0_pay5) (ix3 0 k l) : EReal) = wSel 3 k l
    ∧ (k0_pay12 (F := Ideal) k0_pay4 k0_pay5 (ix3 0 k l) : EReal) = wSel 4 k l
    ∧ (k0_pay13 (F := Ideal) k0_pay4 k0_pay5 (ix3 0 k l) : EReal) = wSel 5 k l
    ∧ (k0_pay14 (F := Ideal) k0_pay4 k0_pay5 (ix3 0 k l) : EReal) = wSel 6 k l
    ∧ (k0_pay16 (k0_pay15 k0_pay4 k0_pay5) (Scalar.ofBits .f32 0x3F800000#32 : Ideal .f32) (Scalar.ofBits .f32 0x00000000#32 : Ideal .f32) (ix3 0 k l) : EReal) = wSel 7 k l
    ∧ (k0_pay17 (F := Ideal) k0_pay4 k0_pay5 (ix3 0 k l) : EReal) = wSel 8 k l
    ∧ (k0_pay18 (F := Ideal) k0_pay4 k0_pay5 (ix3 0 k l) : EReal) = wSel 9 k l
    ∧ (k0_pay20 (F := Ideal) (k0_pay19 k0_pay4 k0_pay5) (ix3 0 k l) : EReal) = wSel 10 k l
    ∧ (k0_pay21 (F := Ideal) k0_pay4 k0_pay5 (ix3 0 k l) : EReal) = wSel 11 k l
    ∧ (k0_pay22 (F := Ideal) k0_pay4 k0_pay5 (ix3 0 k l) : EReal) = wSel 12 k l
    ∧ (k0_pay23 (F := Ideal) k0_pay4 k0_pay5 (ix3 0 k l) : EReal) = wSel 13 k l
    ∧ (k0_pay124 (k0_pay24 k0_pay4 k0_pay5) (Scalar.ofBits .f32 0x00000000#32 : Ideal .f32) k0_pay25 (ix3 0 k l) : EReal) = wSel 14 k l
    ∧ (k0_pay125 (F := Ideal) k0_pay4 k0_pay5 (ix3 0 k l) : EReal) = wSel 15 k l := by
  refine ⟨?_, ?_, ?_, ?_, ?_, ?_, ?_, ?_, ?_, ?_, ?_, ?_, ?_, ?_, ?_, ?_⟩ <;>
  · simp only [k0_pay6, k0_pay7, k0_pay8, k0_pay9, k0_pay10, k0_pay11, k0_pay12, k0_pay13, k0_pay14, k0_pay15, k0_pay16, k0_pay17,
      k0_pay18, k0_pay19, k0_pay20, k0_pay21, k0_pay22, k0_pay23, k0_pay24, k0_pay25, k0_pay124, k0_pay125, wSel]
    pointwise (disch := decide) [row_apply', col_apply', sel_apply, Scalar.select_ofBool, decide_eq_true_eq]

end Cert.Hand

end
-- ==== Proof.Rows.lean ====
/- The three results as functions of whole rows: the sum over the shards, the normalised row, the group scales and the codes. -/
module

public import proofs.«01_k».proof.Proof.TilePay

@[expose] public section

set_option maxRecDepth 16384

noncomputable section

namespace Cert.Hand

open Idealize.ShloMosaic Idealize.ShloMosaic.TcCoe Idealize.ShloMosaic.Tactic
open Cert.KernelIdeal Cert.KernelIdeal.Gen

/-- The new residual from the codes, the scales, the bias and the residual. -/
def nrAt (P : Fin 8 → Fin 2048 → Fin 7168 → EReal) (S : Fin 8 → Fin 2048 → Fin 224 → EReal) (B : Fin 7168 → EReal)
    (X : Fin 2048 → Fin 7168 → EReal) (row : Fin 2048) (l : Fin 7168) : EReal :=
  (∑ d : Fin 8, P d row l * S d row ⟨l.val / 32, by omega⟩) + B l + X row l

/-- The power of two that the kernel reads of a scale. -/
def snap (S : Fin 8 → Fin 2048 → Fin 224 → EReal) (d : Fin 8) (row : Fin 2048) (k : Fin 224) : EReal := Pw (bexp (S d row k))

/-- A row, zero beyond its end. -/
def padded (N : Fin 2048 → Fin 7168 → EReal) (row : Fin 2048) (q : ℕ) : EReal := if h : q < 7168 then N row ⟨q, h⟩ else 0

/-- The reciprocal root mean square of a row as the kernel sums it, lane by lane. -/
def rsLanes (N : Fin 2048 → Fin 7168 → EReal) (row : Fin 2048) : EReal :=
  Ideal.rsqrt ((∑ l : Fin 128, ∑ j ∈ Finset.range 28, (padded N row (256 * j + l.val) * padded N row (256 * j + l.val)
      + padded N row (256 * j + 128 + l.val) * padded N row (256 * j + 128 + l.val))) * ((1 / 7168 : ℝ) : EReal)
    + Ideal.ofBits .f32 0x358637BD#32)

/-- The normalised row. -/
def normed (N : Fin 2048 → Fin 7168 → EReal) (R : Fin 2048 → EReal) (G : Fin 7168 → EReal) (row : Fin 2048) (l : Fin 7168) : EReal :=
  N row l * R row * G l

/-- A group's largest magnitude, over the largest code. -/
def amaxAt (Y : Fin 2048 → Fin 7168 → EReal) (row : Fin 2048) (k : Fin 224) : EReal :=
  amaxOf fun e : Fin 32 => Y row ⟨32 * k.val + e.val, by omega⟩

/-- A code, before its change of format. -/
def codeAt (Y : Fin 2048 → Fin 7168 → EReal) (I : Fin 2048 → Fin 224 → EReal) (row : Fin 2048) (l : Fin 7168) : EReal :=
  clip (Y row l * I row ⟨l.val / 32, by omega⟩)

end Cert.Hand
-- ==== Proof.RefPay.lean ====
/- The values of the reference's body, at an index. -/
module

public import proofs.«01_k».proof.Proof.Rows
public import proofs.«01_k».proof.Proof.Gen.ReferenceIdeal.Frame

@[expose] public section

set_option maxRecDepth 16384

noncomputable section

namespace Cert.Hand

open Idealize.ShloMosaic Idealize.ShloMosaic.TcCoe Idealize.ShloMosaic.Tactic
open Cert.ReferenceIdeal Cert.ReferenceIdeal.Gen

theorem ref_nr (P : Vec Ideal S8x2048x7168 .fp8e4m3) (S : Vec Ideal S8x2048x224 .f32) (B : Vec Ideal S1x7168 .f32)
    (X : Vec Ideal S2048x7168 .bf16) (row : Fin 2048) (l : Fin 7168) :
    k0_pay4 P S B X (ix2 row l)
      = nrAt (fun d row l => P (ix3 d row l)) (fun d row k => S (ix3 d row k)) (fun l => B (ix2 0 l)) (fun row l => X (ix2 row l)) row l := by
  unfold k0_pay4 nrAt
  pointwise

/-- The reciprocal root mean square of a row. -/
def rsMean (N : Fin 2048 → Fin 7168 → EReal) (row : Fin 2048) : EReal :=
  Ideal.rsqrt (Ideal.div (∑ l : Fin 7168, N row l * N row l) (Ideal.ofBits .f32 0x45E00000#32) + Ideal.ofBits .f32 0x358637BD#32)

theorem ref_y (P : Vec Ideal S8x2048x7168 .fp8e4m3) (S : Vec Ideal S8x2048x224 .f32) (B : Vec Ideal S1x7168 .f32)
    (X : Vec Ideal S2048x7168 .bf16) (G : Vec Ideal S1x7168 .f32) (row : Fin 2048) (k : Fin 224) (e : Fin 32) :
    k0_pay5 P S B X G (ix3 row k e)
      = normed (fun row l => k0_pay4 P S B X (ix2 row l)) (rsMean fun row l => k0_pay4 P S B X (ix2 row l)) (fun l => G (ix2 0 l)) row
          ⟨32 * k.val + e.val, by omega⟩ := by
  unfold k0_pay5 normed rsMean
  generalize k0_pay4 P S B X = N
  pointwise
  simp only [Nat.mul_comm]

theorem fold_max_at (y : FVec Ideal S2048x224x32 .f32) (row : Fin 2048) (k : Fin 224) :
    multiReduction .maximumf [2] S2048x224 y 0xFF800000#32 reduces_S2048x224x32_S2048x224 (.inl rfl) rfl (ix2 row k)
      = Finset.univ.fold max (Ideal.ofBits .f32 0xFF800000#32) (fun e : Fin 32 => y (ix3 row k e)) := by
  pointwise

theorem ref_amax (P : Vec Ideal S8x2048x7168 .fp8e4m3) (S : Vec Ideal S8x2048x224 .f32) (B : Vec Ideal S1x7168 .f32)
    (X : Vec Ideal S2048x7168 .bf16) (G : Vec Ideal S1x7168 .f32) (row : Fin 2048) (k : Fin 224) :
    k0_pay6 P S B X G (ix2 row k) = amaxOf fun e : Fin 32 => k0_pay5 P S B X G (ix3 row k e) := by
  unfold k0_pay6 amaxOf
  have h : ∀ y : FVec Ideal S2048x224x32 .f32, mulf (multiReduction .maximumf [2] S2048x224 (absf y) 0xFF800000#32 reduces_S2048x224x32_S2048x224 (.inl rfl) rfl)
      (broadcast S2048x224 (Scalar.ofBits .f32 0x3B124925#32)) (ix2 row k)
      = Finset.univ.fold max (Ideal.ofBits .f32 0xFF800000#32) (fun e : Fin 32 => max (y (ix3 row k e) : EReal) (-y (ix3 row k e))) * Ideal.ofBits .f32 0x3B124925#32 := by
    intro y
    rw [mulf_apply, fold_max_at]
    rfl
  exact h _

/-- How many of the powers 2^-126 … 2^127 are not above `v`, as a sum of ones. -/
def below (v : EReal) : EReal :=
  ∑ k : Fin 254, if Ideal.exp2 (((((k.val : ℤ) - 126 : ℤ) : ℝ)) : EReal) ≤ v then 1 else 0

/-- The exponent of a group's scale. -/
def expOf (v : EReal) : EReal :=
  if below v = 0 then 0 else below v - Ideal.ofBits .f32 0x42FC0000#32

theorem pow_at (k : Fin 254) : FloatOps.exp2 (F := Ideal) (φ := .f32) (FloatOps.sitofp .f32 (IntOp.subi (BitVec.ofNat 32 k.val) 126#32))
    = Ideal.exp2 (((((k.val : ℤ) - 126 : ℤ) : ℝ)) : EReal) := by
  have h : ∀ k : Fin 254, (IntOp.subi (BitVec.ofNat 32 k.val) 126#32).toInt = (k.val : ℤ) - 126 := by decide +kernel
  rw [← h k]
  rfl

theorem ref_exp (v : FVec Ideal S2048x224 .f32) (x : Vec Ideal S8x2048x7168 .fp8e4m3) (S : Vec Ideal S8x2048x224 .f32) (B : Vec Ideal S1x7168 .f32)
    (X : Vec Ideal S2048x7168 .bf16) (G : Vec Ideal S1x7168 .f32) (row : Fin 2048) (k : Fin 224) :
    k0_pay1 v (k0_pay7 x S B X G) 126#32 (ix2 row k) = expOf (v (ix2 row k)) := by
  unfold k0_pay1 k0_pay7 expOf below
  pointwise
  simp only [pow_at]

theorem ref_code (y : FVec Ideal S2048x224x32 .f32) (v : FVec Ideal S2048x224 .f32) (w : IVec S2048x224x254 32) (b : BitVec 32) (row : Fin 2048) (l : Fin 7168) :
    k0_pay2 y v w b (ix2 row l) = clip ((y (ix3 row ⟨l.val / 32, by omega⟩ ⟨l.val % 32, by omega⟩) : EReal)
      * Ideal.exp2 (0 - k0_pay1 v w b (ix2 row ⟨l.val / 32, by omega⟩))) := by
  unfold k0_pay2 clip
  generalize k0_pay1 v w b = e
  pointwise
  rfl

theorem ref_scale (v : FVec Ideal S2048x224 .f32) (w : IVec S2048x224x254 32) (c : BitVec 32) (b : Fin 2) (k : Fin 224) (s : Fin 1024) :
    k0_pay3 v w c (ix3 b k s) = Ideal.exp2 (k0_pay1 v w c (ix2 ⟨1024 * b.val + s.val, by omega⟩ k)) := by
  unfold k0_pay3
  generalize k0_pay1 v w c = e
  pointwise
  simp only [Nat.mul_comm]
  rfl

end Cert.Hand
-- ==== Proof.Bridge.lean ====
/- The facts that join the two programs: the order of a row's sum, the bound on a group's largest magnitude, and the exponent of
   a group's scale counted or searched. -/
module

public import proofs.«01_k».proof.Proof.Rows
public import proofs.«01_k».proof.Proof.RefPay

@[expose] public section

set_option maxRecDepth 16384

noncomputable section

namespace Cert.Hand

open Idealize.ShloMosaic Idealize.ShloMosaic.TcCoe Idealize.ShloMosaic.Tactic

/-! ### Constants -/

theorem c_d : Ideal.ofBits .f32 0x45E00000#32 = ((7168 : ℝ) : EReal) := by
  simp [Ideal.ofBits, Ideal.ieee, -EReal.coe_mul]; norm_num

theorem c_eps : Ideal.ofBits .f32 0x358637BD#32 = ((8796093 * (2 : ℝ) ^ (-43 : ℤ) : ℝ) : EReal) := by
  simp [Ideal.ofBits, Ideal.ieee, -EReal.coe_mul]

theorem c_inv : Ideal.ofBits .f32 0x3B124925#32 = ((9586981 * (2 : ℝ) ^ (-32 : ℤ) : ℝ) : EReal) := by
  simp [Ideal.ofBits, Ideal.ieee, -EReal.coe_mul]

theorem c_126 : Ideal.ofBits .f32 0x42FC0000#32 = ((126 : ℝ) : EReal) := by
  simp [Ideal.ofBits, Ideal.ieee, -EReal.coe_mul]; norm_num

theorem c_bot : Ideal.ofBits .f32 0xFF800000#32 = ⊥ := by simp [Ideal.ofBits, Ideal.ieee]

/-! ### The order of a row's sum -/

theorem sum_blocks (h : ℕ → EReal) (k : ℕ) :
    ∑ j ∈ Finset.range k, ∑ l ∈ Finset.range 256, h (256 * j + l) = ∑ q ∈ Finset.range (256 * k), h q := by
  induction k with
  | zero => simp
  | succ k ih => rw [Finset.sum_range_succ, ih, Nat.mul_succ, Finset.sum_range_add]

theorem sum_lanes (h : ℕ → EReal) :
    ∑ l : Fin 128, ∑ j ∈ Finset.range 28, (h (256 * j + l.val) + h (256 * j + 128 + l.val)) = ∑ q : Fin 7168, h q.val := by
  rw [Fin.sum_univ_eq_sum_range (fun q => h q) 7168, show 7168 = 256 * 28 from rfl, ← sum_blocks,
    Fin.sum_univ_eq_sum_range (fun l => ∑ j ∈ Finset.range 28, (h (256 * j + l) + h (256 * j + 128 + l))) 128, Finset.sum_comm]
  refine Finset.sum_congr rfl fun j _ => ?_
  rw [Finset.sum_add_distrib, show 256 = 128 + 128 from rfl, Finset.sum_range_add]
  simp only [Nat.add_assoc]

theorem rs_eq (N : Fin 2048 → Fin 7168 → EReal) (row : Fin 2048) : rsLanes N row = rsMean N row := by
  have h : ∀ q : Fin 7168, padded N row q.val = N row q := fun q => dif_pos q.isLt
  unfold rsLanes rsMean
  rw [sum_lanes fun q => padded N row q * padded N row q, c_d, Ideal.div_coe (by norm_num)]
  simp only [h]

/-! ### The bound -/

theorem sq_nonneg' (x : EReal) : 0 ≤ x * x := by
  induction x using EReal.rec with
  | bot => simp
  | top => simp
  | coe r => rw [← EReal.coe_mul]; exact_mod_cast mul_self_nonneg r

theorem coe_sum' {n : ℕ} (g : Fin n → ℝ) : ∑ j, ((g j : ℝ) : EReal) = ((∑ j, g j : ℝ) : EReal) := by
  classical
  induction (Finset.univ : Finset (Fin n)) using Finset.induction_on with
  | empty => simp
  | insert a s ha ih => rw [Finset.sum_insert ha, Finset.sum_insert ha, ih, EReal.coe_add]

/-- A row's element over its root mean square is at most the root of the row's length. -/
theorem root_bound (f : Fin 7168 → EReal) (l : Fin 7168) (e : ℝ) (he : 0 < e) :
    ∃ t : ℝ, f l * Ideal.rsqrt (Ideal.div (∑ j, f j * f j) ((7168 : ℝ) : EReal) + (e : EReal)) = (t : EReal) ∧ |t| ≤ 85 := by
  rw [Ideal.div_coe (by norm_num)]
  by_cases h : ∃ j, f j = ⊤ ∨ f j = ⊥
  · obtain ⟨j, hj⟩ := h
    have h1 : f j * f j = ⊤ := by rcases hj with hj | hj <;> rw [hj] <;> simp
    have h2 : ∑ j, f j * f j = ⊤ :=
      top_le_iff.mp (h1 ▸ Finset.single_le_sum (f := fun j => f j * f j) (fun i _ => sq_nonneg' _) (Finset.mem_univ j))
    refine ⟨0, ?_, by norm_num⟩
    rw [h2, EReal.top_mul_coe_of_pos (by norm_num), EReal.top_add_coe, Ideal.rsqrt_top, mul_zero]
    rfl
  · push Not at h
    have hr : ∀ j, f j = (((f j).toReal : ℝ) : EReal) := fun j => (EReal.coe_toReal (h j).1 (h j).2).symm
    generalize hg : (fun j => (f j).toReal) = g at *
    have hr' : ∀ j, f j = ((g j : ℝ) : EReal) := fun j => by rw [← hg]; exact hr j
    have hq : ∑ j, f j * f j = ((∑ j, g j * g j : ℝ) : EReal) := by
      rw [← coe_sum']
      exact Finset.sum_congr rfl fun j _ => by rw [hr' j, EReal.coe_mul]
    have hl : g l * g l ≤ ∑ j, g j * g j :=
      Finset.single_le_sum (f := fun j => g j * g j) (fun i _ => mul_self_nonneg _) (Finset.mem_univ l)
    rw [hq, hr' l, ← EReal.coe_mul, ← EReal.coe_add]
    generalize (∑ j, g j * g j) = q at *
    have hs : 0 < q * (1 / 7168) + e := by
      have : 0 ≤ q := (mul_self_nonneg _).trans hl
      positivity
    rw [Ideal.rsqrt_coe, if_neg (not_lt.mpr hs.le), if_neg hs.ne', ← EReal.coe_mul]
    refine ⟨_, rfl, ?_⟩
    have hp : 0 < √(q * (1 / 7168) + e) := Real.sqrt_pos.mpr hs
    rw [abs_mul, abs_of_pos (inv_pos.mpr hp), ← div_eq_mul_inv, div_le_iff₀ hp]
    refine abs_le_of_sq_le_sq ?_ (by positivity)
    rw [mul_pow, Real.sq_sqrt hs.le]
    nlinarith

/-- A gain that is finite. -/
def Finite (x : EReal) : Prop := ∃ g : ℝ, x = (g : EReal) ∧ |g| ≤ 2 ^ 128

theorem normed_bound (N : Fin 2048 → Fin 7168 → EReal) (G : Fin 7168 → EReal) (hG : ∀ l, Finite (G l)) (row : Fin 2048) (l : Fin 7168) :
    ∃ t : ℝ, normed N (rsMean N) G row l = (t : EReal) ∧ |t| ≤ 85 * 2 ^ 128 := by
  obtain ⟨g, hg, hb⟩ := hG l
  obtain ⟨t, ht, hc⟩ := root_bound (N row) l (8796093 * (2 : ℝ) ^ (-43 : ℤ)) (by positivity)
  refine ⟨t * g, ?_, ?_⟩
  · unfold normed rsMean
    rw [c_d, c_eps, ht, hg, EReal.coe_mul]
  · rw [abs_mul]
    exact mul_le_mul hc hb (abs_nonneg _) (by norm_num)

theorem amax_bound (y : Fin 32 → EReal) (hy : ∀ i, ∃ t : ℝ, y i = (t : EReal) ∧ |t| ≤ 85 * 2 ^ 128) : 0 ≤ amaxOf y ∧ amaxOf y < Pw 253 := by
  unfold amaxOf
  have h0 : 0 ≤ Finset.univ.fold max (Ideal.ofBits .f32 0xFF800000#32) (fun i => max (y i) (-y i)) := by
    refine (Finset.le_fold_max _).mpr (Or.inr ⟨0, Finset.mem_univ _, ?_⟩)
    obtain ⟨t, ht, -⟩ := hy 0
    rw [ht, ← EReal.coe_neg]
    rcases le_total 0 t with h | h
    · exact le_max_of_le_left (by exact_mod_cast h)
    · exact le_max_of_le_right (by exact_mod_cast neg_nonneg.mpr h)
  have h1 : Finset.univ.fold max (Ideal.ofBits .f32 0xFF800000#32) (fun i => max (y i) (-y i)) ≤ ((85 * 2 ^ 128 : ℝ) : EReal) := by
    refine (Finset.fold_max_le _).mpr ⟨by rw [c_bot]; exact bot_le, fun i _ => ?_⟩
    obtain ⟨t, ht, hb⟩ := hy i
    rw [ht, ← EReal.coe_neg]
    exact max_le (EReal.coe_le_coe_iff.mpr ((le_abs_self _).trans hb)) (EReal.coe_le_coe_iff.mpr ((neg_le_abs _).trans hb))
  generalize Finset.univ.fold max (Ideal.ofBits .f32 0xFF800000#32) (fun i => max (y i) (-y i)) = z at *
  have hz : z = ((z.toReal : ℝ) : EReal) :=
    (EReal.coe_toReal (ne_top_of_le_ne_top (EReal.coe_ne_top _) h1) (ne_bot_of_le_ne_bot (EReal.coe_ne_bot 0) h0)).symm
  generalize z.toReal = r at hz
  subst hz
  have h0' : (0 : ℝ) ≤ r := by exact_mod_cast h0
  have h1' : r ≤ 85 * 2 ^ 128 := EReal.coe_le_coe_iff.mp h1
  rw [c_inv, Pw_of_lt (by norm_num) (by norm_num), ← EReal.coe_mul]
  refine ⟨by exact_mod_cast (by positivity), EReal.coe_lt_coe_iff.mpr ?_⟩
  refine (mul_le_mul_of_nonneg_right h1' (by positivity)).trans_lt ?_
  norm_num

/-! ### The exponent -/

theorem count_lt : ∀ n : Fin 255, (Finset.univ.filter fun k : Fin 254 => k.val < n.val).card = n.val := by decide +kernel

theorem exp2_int (z : ℤ) : Ideal.exp2 (((z : ℝ)) : EReal) = (((2 : ℝ) ^ z : ℝ) : EReal) := by
  rw [Ideal.exp2_coe]
  exact congrArg _ (Real.rpow_intCast 2 z)

theorem below_eq {v : EReal} (h0 : 0 ≤ v) (hn : bexp v ≤ 252) : below v = (((bexp v : ℕ) : ℝ) : EReal) := by
  unfold below
  have h : ∀ k : Fin 254, (if Ideal.exp2 (((((k.val : ℤ) - 126 : ℤ) : ℝ)) : EReal) ≤ v then (1 : EReal) else 0)
      = (((if k.val < bexp v then 1 else 0 : ℝ)) : EReal) := by
    intro k
    have hk := k.isLt
    rw [exp2_int, show ((2 : ℝ) ^ ((k.val : ℤ) - 126) : ℝ) = (2 : ℝ) ^ (((k.val + 1 : ℕ) : ℤ) - 127) by congr 1; push_cast; ring,
      ← Pw_of_lt (by omega) (by omega)]
    by_cases hb : k.val < bexp v
    · rw [if_pos ((Pw_le_iff h0 (by omega)).mpr (by omega)), if_pos hb]; rfl
    · rw [if_neg (fun hc => hb ((Pw_le_iff h0 (by omega)).mp hc)), if_neg hb]; rfl
  rw [Finset.sum_congr rfl fun k _ => h k, coe_sum', Finset.sum_boole, count_lt ⟨bexp v, by omega⟩]

theorem bexp_lt {v : EReal} (h0 : 0 ≤ v) (h : v < Pw 253) : bexp v ≤ 252 := by
  by_contra hc
  exact absurd ((Pw_le_iff h0 (by norm_num)).mpr (by omega : 253 ≤ bexp v)) (not_le.mpr h)

theorem scale_eq {v : EReal} (h0 : 0 ≤ v) (h : v < Pw 253) : ysOf v = Ideal.exp2 (expOf v) ∧ ivOf v = Ideal.exp2 (0 - expOf v) := by
  have hn := bexp_lt h0 h
  unfold ysOf ivOf expOf sb
  rw [below_eq h0 hn, c_126]
  generalize bexp v = n at *
  by_cases hz : n = 0
  · subst hz
    rw [if_pos rfl, if_pos (by simp), show (254#32 - 127#32 : BitVec 32) = BitVec.ofNat 32 (⟨127, by omega⟩ : Fin 256).val from rfl,
      show (127#32 : BitVec 32) = BitVec.ofNat 32 (⟨127, by omega⟩ : Fin 256).val from rfl, ofBits_f32_exp, Pw_of_lt (by norm_num) (by norm_num), sub_zero,
      show (0 : EReal) = (((0 : ℤ) : ℝ) : EReal) by simp, exp2_int]
    norm_num
  · have hne : (((n : ℕ) : ℝ) : EReal) ≠ 0 := by exact_mod_cast hz
    rw [if_neg hz, if_neg hne, ← EReal.coe_sub]
    constructor
    · rw [show BitVec.ofNat 32 n + 1#32 = BitVec.ofNat 32 (⟨n + 1, by omega⟩ : Fin 256).val from by
          apply BitVec.eq_of_toNat_eq; simp, ofBits_f32_exp, Pw_of_lt (by simp) (by show n + 1 < 255; omega),
        show ((n : ℝ) - 126 : ℝ) = (((n : ℤ) - 126 : ℤ) : ℝ) by push_cast; ring, exp2_int]
      congr 2
      push_cast; ring
    · rw [show 254#32 - (BitVec.ofNat 32 n + 1#32) = BitVec.ofNat 32 (⟨253 - n, by omega⟩ : Fin 256).val from by
          apply BitVec.eq_of_toNat_eq; simp; omega, ofBits_f32_exp, Pw_of_lt (by show 253 - n ≠ 0; omega) (by show 253 - n < 255; omega),
        show (0 - (((n : ℝ) - 126 : ℝ) : EReal)) = (((126 - (n : ℤ) : ℤ) : ℝ) : EReal) by
          rw [zero_sub, ← EReal.coe_neg]; congr 1; push_cast; ring, exp2_int]
      congr 2
      show ((253 - n : ℕ) : ℤ) - 127 = 126 - n
      omega

end Cert.Hand
-- ==== Proof.Pre.lean ====
/- What the precondition says of one scale and of one gain. -/
module

public import proofs.«01_k».proof.Proof.Bridge
public import proofs.«01_k».proof.Proof.Gen.Pre_representable
public import Idealize.ShloMosaic.Lib.ReduceAll

@[expose] public section

set_option maxRecDepth 16384

noncomputable section

namespace Cert.Hand

open Idealize.ShloMosaic Idealize.ShloMosaic.TcCoe Idealize.ShloMosaic.Tactic
open Cert.Pre_representable

theorem or_one : ∀ {a b : BitVec 1}, IntOp.ori a b = 1#1 → a = 1#1 ∨ b = 1#1 := by decide

theorem cmp_oeq {x y : EReal} (h : Ideal.cmp .oeq x y = 1#1) : x = y := by
  by_contra hc
  simp [Ideal.cmp, hc] at h

theorem cmp_ole {x y : EReal} (h : Ideal.cmp .ole x y = 1#1) : x ≤ y := by
  by_contra hc
  simp [Ideal.cmp, hc] at h

theorem foldl_or {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_or f l _ h with h1 | ⟨n, hn, h1⟩
    · rcases or_one h1 with h2 | h2
      · exact Or.inl h2
      · exact Or.inr ⟨a, List.mem_cons_self .., h2⟩
    · exact Or.inr ⟨n, List.mem_cons_of_mem _ hn, h1⟩

/-- `jnp.any`: a result that is 1 has an operand that is 1 and reduces into it. -/
theorem reduce_or {s t u : Shape} {axes : List (Fin s.rank)} (x : s.Idx → BitVec 1) (init : u.Idx → BitVec 1) (h : s.ReducesTo axes t) (hu : 0 < u.numel)
    (j : t.Idx) (hi : init (Shape.Idx.first hu) = 0#1) (e : Host.reduce IntOp.ori x init h hu j = 1#1) : ∃ i, h.drop i = j ∧ x i = 1#1 := by
  rw [Host.reduce_eq_foldl] at e
  rcases foldl_or x _ _ e with h1 | ⟨n, hn, h1⟩
  · rw [hi] at h1; exact absurd h1 (by decide)
  · rw [List.mem_filter] at hn
    exact ⟨n, by simpa using hn.2, h1⟩

theorem c_two : Ideal.ofBits .f32 0x40000000#32 = ((2 : ℝ) : EReal) := by
  simp [Ideal.ofBits, Ideal.ieee, -EReal.coe_mul]; norm_num

theorem c_inf : Ideal.ofBits .f32 0x7F800000#32 = ⊤ := by simp [Ideal.ofBits, Ideal.ieee]

theorem c_max : Ideal.ofBits .f32 0x7F7FFFFF#32 = ((16777215 * (2 : ℝ) ^ (104 : ℤ) : ℝ) : EReal) := by
  simp [Ideal.ofBits, Ideal.ieee, -EReal.coe_mul]

theorem int_of (k : Fin 254) : (IntOp.subi (BitVec.ofNat 32 k.val) 126#32).toInt = (k.val : ℤ) - 126 := by
  revert k; decide +kernel

/-- The k-th power the precondition lists. -/
theorem power_eq (k : Fin 254) : Ideal.pow (Ideal.ofBits .f32 0x40000000#32)
    ((((IntOp.subi (BitVec.ofNat 32 k.val) 126#32).toInt : ℝ)) : EReal) = Pw (k.val + 1) := by
  rw [int_of, c_two]
  refine (congrArg _ (Real.rpow_intCast 2 _) : _ = (((2 : ℝ) ^ ((k.val : ℤ) - 126) : ℝ) : EReal)).trans ?_
  rw [Pw_of_lt (by omega) (by omega)]
  congr 2
  push_cast; ring

variable [Facts]

theorem drop_ix (i : S8x2x1024x224x254.Idx) (j : S8x2x1024x224.Idx) (h : Facts.reducesTo_S8x2x1024x224x254_S8x2x1024x224_d4.drop i = j)
    (b : Fin 4) : (j b).val = (i b.castSucc).val := by
  rw [← h]
  match b with
  | 0 => exact Facts.reducesTo_S8x2x1024x224x254_S8x2x1024x224_d4.drop_apply_val_of_eq i 0 0
  | 1 => exact Facts.reducesTo_S8x2x1024x224x254_S8x2x1024x224_d4.drop_apply_val_of_eq i 1 1
  | 2 => exact Facts.reducesTo_S8x2x1024x224x254_S8x2x1024x224_d4.drop_apply_val_of_eq i 2 2
  | 3 => exact Facts.reducesTo_S8x2x1024x224x254_S8x2x1024x224_d4.drop_apply_val_of_eq i 3 3

/-- A scale the precondition admits is a power of two, zero or infinity. -/
theorem scale_pw (a0 : FVec Ideal S8x2x1024x7168 .fp8e4m3) (a1 : FVec Ideal S8x2x1024x224 .f32) (a2 : FVec Ideal S7168 .f32)
    (a3 : FVec Ideal S2x1024x7168 .bf16) (a4 : FVec Ideal S7168 .f32) (h : (fn (F := Ideal) a0 a1 a2 a3 a4).1 = fun _ => 1#1)
    (j : S8x2x1024x224.Idx) : ∃ n, n ≤ 255 ∧ (a1 j : EReal) = Pw n := by
  have e := congrFun h j
  dsimp only [fn, fn_part1] at e
  rcases or_one e with e | e
  · rcases or_one e with e | e
    · obtain ⟨i, hi, e⟩ := reduce_or _ _ _ _ _ rfl e
      have e1 := cmp_oeq e
      refine ⟨(i 4).val + 1, by have := (i 4).isLt; change (i 4).val < 254 at this; omega, ?_⟩
      rw [← power_eq (i 4)]
      refine Eq.trans ?_ (e1.trans ?_)
      · refine congrArg a1 (funext fun b => Fin.ext ?_)
        rw [drop_ix i j hi b]
        match b with
        | 0 => rfl
        | 1 => rfl
        | 2 => rfl
        | 3 => rfl
      · rfl
    · refine ⟨0, by norm_num, ?_⟩
      rw [Pw_zero]
      exact (cmp_oeq e).trans Ideal.ofBits_zero_f32
  · refine ⟨255, le_refl _, ?_⟩
    rw [Pw_top]
    exact (cmp_oeq e).trans c_inf

/-- A gain the precondition admits is finite. -/
theorem gain_finite (a0 : FVec Ideal S8x2x1024x7168 .fp8e4m3) (a1 : FVec Ideal S8x2x1024x224 .f32) (a2 : FVec Ideal S7168 .f32)
    (a3 : FVec Ideal S2x1024x7168 .bf16) (a4 : FVec Ideal S7168 .f32) (h : (fn (F := Ideal) a0 a1 a2 a3 a4).2 = fun _ => 1#1)
    (j : S7168.Idx) : Finite (a4 j) := by
  have e := congrFun h j
  dsimp only [fn, fn_part1] at e
  have e1 : max (a4 j : EReal) (-(a4 j : EReal)) ≤ Ideal.ofBits .f32 0x7F7FFFFF#32 := cmp_ole e
  rw [c_max, max_le_iff] at e1
  generalize (a4 j : EReal) = x at e1
  obtain ⟨h1, h2⟩ := e1
  have ht : x ≠ ⊤ := ne_top_of_le_ne_top (EReal.coe_ne_top _) h1
  have hb : x ≠ ⊥ := fun hc => by
    rw [hc, EReal.neg_bot] at h2
    exact EReal.coe_ne_top _ (top_le_iff.mp h2)
  obtain ⟨r, rfl⟩ : ∃ r : ℝ, x = (r : EReal) := ⟨x.toReal, (EReal.coe_toReal ht hb).symm⟩
  rw [← EReal.coe_neg] at h2
  refine ⟨r, rfl, (abs_le'.mpr ⟨EReal.coe_le_coe_iff.mp h1, EReal.coe_le_coe_iff.mp h2⟩).trans ?_⟩
  norm_num

end Cert.Hand
-- ==== Proof.Conds.lean ====
/- What the runs of the body are stated over: the branch condition in closed form over the grid, the staging and scratch
   memrefs, and the invariant of the frame kit with the scratch operands spelled as memrefs. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S8x128x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x7168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x224x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x256x256 .bf16 := Memref.whole cc0_scratch0
abbrev scM0_1 : Memref sig .tc .vmem S4x2x128x256 .bf16 := Memref.whole cc0_scratch1
abbrev scM0_2 : Memref sig .tc .vmem S128x7168 .f32 := Memref.whole cc0_scratch2
abbrev scM0_3 : Memref sig .tc .vmem S256x128 .f32 := Memref.whole cc0_scratch3
/-- The scratch `arg9` the kernel carries between points, as a view: what it holds is stated through it. -/
abbrev VS0_0 : View sig .tc .vmem S16x256x256 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Trips.lean ====
/- What a loop has stored: the pieces of its trips, each agreeing with one function of the index. -/
module

public import proofs.«01_k».proof.Proof.Conds

@[expose] public section

set_option maxRecDepth 16384

noncomputable section

namespace Cert.Hand

open Idealize.ShloMosaic Idealize.ShloMosaic.TcCoe Idealize.ShloMosaic.Tactic
open Cert.KernelIdeal Cert.KernelIdeal.Gen

/-- The pieces stored before trip `m` are those of the trips before it. -/
theorem mem_trips {α : Type*} {n : ℕ} {pb : ℕ → List α} {L : Fin n → List α} (h0 : pb 0 = [])
    (hs : ∀ k : Fin n, pb (k.val + 1) = L k ++ pb k.val) (p : α) :
    ∀ m, m ≤ n → (p ∈ pb m ↔ ∃ k : Fin n, k.val < m ∧ p ∈ L k)
  | 0, _ => by simp [h0]
  | m + 1, hm => by
    rw [hs ⟨m, hm⟩, List.mem_append, mem_trips h0 hs p m (by omega)]
    constructor
    · rintro (h | ⟨k, hk, h⟩)
      · exact ⟨⟨m, hm⟩, Nat.lt_succ_self m, h⟩
      · exact ⟨k, by omega, h⟩
    · rintro ⟨k, hk, h⟩
      rcases Nat.lt_or_ge k.val m with hlt | hge
      · exact Or.inr ⟨k, hlt, h⟩
      · have : k = ⟨m, hm⟩ := Fin.ext (by show k.val = m; omega)
        subst this
        exact Or.inl h

/-- A load through a rectangle of unit stride reads the element at the offsets plus the index. -/
theorem readAt_at {sig : RefSig} {κ : Kind} {sp : Space} {s : Shape} {e : EltTy} {Val : EltTy → Type} (v : View sig κ sp s e)
    (f : v.ty.Contents Val) {off off' size : Fin s.rank → ℕ} (inb : ∀ a, off a + size a ≤ s.size a) (hoff : off = off')
    (y : (Rect.unit off size inb).shape.Idx) (z : s.Idx) (hz : ∀ a, (z a).val = off' a + (y a).val) :
    v.readAt Val (Rect.unit off size inb).toLoadRect f y = v.read Val f z :=
  congrArg (v.read Val f) (funext fun a => Fin.ext (by
    show off a + 1 * (y a).val = (z a).val
    rw [hz a, ← hoff]; omega))

/-- The place of an index of a rectangle of unit stride. -/
theorem emb_at {s : Shape} {off size : Fin s.rank → ℕ} (inb : ∀ a, off a + size a ≤ s.size a)
    (y : (Rect.unit off size inb).shape.Idx) (z : s.Idx) (hz : ∀ a, (z a).val = off a + (y a).val) :
    (Rect.unit off size inb).emb y = z :=
  funext fun a => Fin.ext (by
    show off a + 1 * (y a).val = (z a).val
    rw [hz a]; omega)

/-- The same, with the offsets given in closed form. -/
theorem emb_at' {s : Shape} {off off' size : Fin s.rank → ℕ} (inb : ∀ a, off a + size a ≤ s.size a) (hoff : off = off')
    (y : (Rect.unit off size inb).shape.Idx) (z : s.Idx) (hz : ∀ a, (z a).val = off' a + (y a).val) :
    (Rect.unit off size inb).emb y = z := by
  subst hoff
  exact emb_at inb y z hz

end Cert.Hand
-- ==== Proof.LoopLhs.lean ====
/- The loop that moves the scale exponents into the scratch: what it leaves there, at every index. -/
module

public import proofs.«01_k».proof.Proof.Trips
public import proofs.«01_k».proof.Proof.TilePay

@[expose] public section

set_option maxRecDepth 16384

noncomputable section

namespace Cert.Hand

open Idealize.ShloMosaic Idealize.ShloMosaic.TcCoe Idealize.ShloMosaic.Tactic
open Cert.KernelIdeal Cert.KernelIdeal.Gen

theorem trips1 : k0_t1_loop.trips = 8 := by decide +kernel

/-- The scales of one shard, as loaded. -/
def shard (x1 : Vec Ideal S8x1x224x128 .f32) (s : Fin 8) : Vec Ideal S1x1x224x128 .f32 :=
  fun y => x1 (ix4 s 0 (y 2) (y 3))

/-- What the scratch holds at each index once the exponents have been moved. -/
def lhsAt (O : Fin 8 → FVec Ideal S128x256 .bf16) (z : S4x2x128x256.Idx) : Ideal .bf16 :=
  O ⟨(z 2).val / 16, by have : (z 2).val < 128 := (z 2).isLt; omega⟩
    (ix2 ⟨64 * ((z 3).val / 128) + 16 * (z 0).val + (z 2).val % 16, by
      have : (z 3).val < 256 := (z 3).isLt
      have : (z 0).val < 4 := (z 0).isLt
      omega⟩ ⟨128 * (z 1).val + (z 3).val % 128, by
      have : (z 1).val < 2 := (z 1).isLt
      omega⟩)

theorem lhs_piece (O : Fin 8 → FVec Ideal S128x256 .bf16) (k : Fin 8) (u : Fin 4) (h c : Fin 2) (a b : ℕ)
    (ha : a = 64 * c.val + 16 * u.val) (hb : b = 128 * h.val)
    {off : Fin S4x2x128x256.rank → ℕ} (hoff : off = ![u.val, h.val, 16 * k.val, 128 * c.val])
    (inb : ∀ t, off t + (![1, 1, 16, 128] : Fin 4 → ℕ) t ≤ S4x2x128x256.size t)
    (hs : S128x256.Slices ![a, b] S16x128) (hc) (x : S1x1x16x128.Idx) :
    shapeCast S1x1x16x128 (extractStridedSlice S16x128 ![a, b] (O k) hs) hc x
      = lhsAt O ((Rect.unit (s := S4x2x128x256) off ![1, 1, 16, 128] inb).emb x) := by
  subst hoff ha hb
  obtain ⟨x0, x1, r, l, rfl⟩ : ∃ x0 x1 r l, x = ix4 x0 x1 r l := ⟨_, _, _, _, eq_ix4 x⟩
  have hr := r.isLt
  have hl := l.isLt
  have e : (shapeCast S1x1x16x128 (extractStridedSlice S16x128 ![64 * c.val + 16 * u.val, 128 * h.val] (O k) hs) hc (ix4 x0 x1 r l))
      = extractStridedSlice S16x128 ![64 * c.val + 16 * u.val, 128 * h.val] (O k) hs (ix2 r l) := by
    pointwise
  rw [e, emb_at inb (ix4 x0 x1 r l) (ix4 u h ⟨16 * k.val + r.val, by omega⟩ ⟨128 * c.val + l.val, by omega⟩) (by
    intro t
    have h0 := x0.isLt
    have h1 := x1.isLt
    fin_cases t
    · show u.val = u.val + x0.val
      omega
    · show h.val = h.val + x1.val
      omega
    · rfl
    · rfl)]
  unfold lhsAt extractStridedSlice
  have e1 : (⟨(ix4 u h (⟨16 * k.val + r.val, by omega⟩ : Fin 128) (⟨128 * c.val + l.val, by omega⟩ : Fin 256) 2).val / 16, by
      show (16 * k.val + r.val) / 16 < 8; omega⟩ : Fin 8) = k := Fin.ext (by show (16 * k.val + r.val) / 16 = k.val; omega)
  rw [e1]
  refine congrArg (O k) (funext fun t => Fin.ext ?_)
  fin_cases t
  · show 64 * c.val + 16 * u.val + r.val = 64 * ((128 * c.val + l.val) / 128) + 16 * u.val + (16 * k.val + r.val) % 16
    omega
  · show 128 * h.val + l.val = 128 * h.val + (128 * c.val + l.val) % 128
    omega

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X2 : BufTy.Contents (Elt Ideal) arg2.view.ty)

/-- The exponents a trip computes. -/
def trip1O (k : Fin 8) : FVec Ideal S128x256 .bf16 := trip_k0_t1.sl.v162 arg2 X2 (k.cast trips1.symm)

theorem trip1O_eq (k : Fin 8) : trip1O arg2 X2 k = oTile (shard (arg2.view.read (Elt Ideal) X2) k) := by
  have h : trip1O arg2 X2 k = oTile (arg2.view.readAt (Elt Ideal) (Rect.unit (s := S8x1x224x128) (k0_off1 (k.cast trips1.symm)) ![1, 1, 224, 128] (by decide +kernel +revert)).toLoadRect X2) := rfl
  rw [h]
  refine congrArg oTile (funext fun y => ?_)
  refine readAt_at _ _ _ (k0_off1_eq _) _ _ fun t => ?_
  have h0 : (y 0).val < 1 := (y 0).isLt
  have h1 : (y 1).val < 1 := (y 1).isLt
  fin_cases t
  · show k.val = k.val + (y 0).val
    omega
  · show 0 = 0 + (y 1).val
    omega
  · show (y 2).val = 0 + (y 2).val
    omega
  · show (y 3).val = 0 + (y 3).val
    omega

theorem mem1 (p) : p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 X2 k0_t1_loop.trips ↔ ∃ k, p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 X2 k := by
  rw [mem_trips (pb := pb_k0_t1 (F := Ideal) Variants.none c none i arg1 harg1 arg2 harg2 arg3 harg3 arg4 harg4 arg5 harg5 arg6 harg6 arg7 harg7 arg8 harg8 arg9 harg9 arg10 harg10 arg11 harg11 arg12 harg12 X2) (L := fun k => tripL_k0_t1 (F := Ideal) Variants.none c none i arg1 harg1 arg2 harg2 arg3 harg3 arg4 harg4 arg5 harg5 arg6 harg6 arg7 harg7 arg8 harg8 arg9 harg9 arg10 harg10 arg11 harg11 arg12 harg12 X2 k) rfl
    (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 X2 k) p _ le_rfl]
  exact ⟨fun ⟨k, _, h⟩ => ⟨k, h⟩, fun ⟨k, h⟩ => ⟨k, k.isLt, h⟩⟩

theorem trip1_pieces (k : Fin k0_t1_loop.trips) : ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 X2 k, ∀ x, p.2 x = lhsAt (trip1O arg2 X2) (p.1.emb x) := by
  unfold tripL_k0_t1 trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · exact lhs_piece (trip1O arg2 X2) (k.cast trips1) 3 1 1 _ _ rfl rfl (k0_off17_eq k) _ _ _
  · exact lhs_piece (trip1O arg2 X2) (k.cast trips1) 3 1 0 _ _ rfl rfl (k0_off16_eq k) _ _ _
  · exact lhs_piece (trip1O arg2 X2) (k.cast trips1) 3 0 1 _ _ rfl rfl (k0_off15_eq k) _ _ _
  · exact lhs_piece (trip1O arg2 X2) (k.cast trips1) 3 0 0 _ _ rfl rfl (k0_off14_eq k) _ _ _
  · exact lhs_piece (trip1O arg2 X2) (k.cast trips1) 2 1 1 _ _ rfl rfl (k0_off13_eq k) _ _ _
  · exact lhs_piece (trip1O arg2 X2) (k.cast trips1) 2 1 0 _ _ rfl rfl (k0_off12_eq k) _ _ _
  · exact lhs_piece (trip1O arg2 X2) (k.cast trips1) 2 0 1 _ _ rfl rfl (k0_off11_eq k) _ slices_S128x256_o96_0_S16x128 _
  · exact lhs_piece (trip1O arg2 X2) (k.cast trips1) 2 0 0 _ _ rfl rfl (k0_off10_eq k) _ _ _
  · exact lhs_piece (trip1O arg2 X2) (k.cast trips1) 1 1 1 _ _ rfl rfl (k0_off9_eq k) _ _ _
  · exact lhs_piece (trip1O arg2 X2) (k.cast trips1) 1 1 0 _ _ rfl rfl (k0_off8_eq k) _ _ _
  · exact lhs_piece (trip1O arg2 X2) (k.cast trips1) 1 0 1 _ _ rfl rfl (k0_off7_eq k) _ _ _
  · exact lhs_piece (trip1O arg2 X2) (k.cast trips1) 1 0 0 _ _ rfl rfl (k0_off6_eq k) _ _ _
  · exact lhs_piece (trip1O arg2 X2) (k.cast trips1) 0 1 1 _ _ rfl rfl (k0_off5_eq k) _ _ _
  · exact lhs_piece (trip1O arg2 X2) (k.cast trips1) 0 1 0 _ _ rfl rfl (k0_off4_eq k) _ _ _
  · exact lhs_piece (trip1O arg2 X2) (k.cast trips1) 0 0 1 _ _ rfl rfl (k0_off3_eq k) _ _ _
  · exact lhs_piece (trip1O arg2 X2) (k.cast trips1) 0 0 0 _ _ rfl rfl (k0_off2_eq k) _ _ _

theorem lhs_mem {off : Fin S4x2x128x256.rank → ℕ} (u h k c : ℕ) (hoff : off = ![u, h, 16 * k, 128 * c])
    (inb : ∀ t, off t + (![1, 1, 16, 128] : Fin 4 → ℕ) t ≤ S4x2x128x256.size t) (z : S4x2x128x256.Idx)
    (h0 : (z 0).val = u) (h1 : (z 1).val = h) (h2 : (z 2).val / 16 = k) (h3 : (z 3).val / 128 = c) :
    z ∈ (Rect.unit (s := S4x2x128x256) off ![1, 1, 16, 128] inb).set := by
  subst hoff
  rw [Rect.mem_set_unit]
  intro t
  fin_cases t
  · show u ≤ (z 0).val ∧ (z 0).val < u + 1
    omega
  · show h ≤ (z 1).val ∧ (z 1).val < h + 1
    omega
  · show 16 * k ≤ (z 2).val ∧ (z 2).val < 16 * k + 16
    omega
  · show 128 * c ≤ (z 3).val ∧ (z 3).val < 128 * c + 128
    omega

theorem trip1_cover (z : S4x2x128x256.Idx) : ∃ k, ∃ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 X2 k, z ∈ p.1.set := by
  have a0 : (z 0).val < 4 := (z 0).isLt
  have a1 : (z 1).val < 2 := (z 1).isLt
  have a2 : (z 2).val < 128 := (z 2).isLt
  have a3 : (z 3).val < 256 := (z 3).isLt
  refine ⟨⟨(z 2).val / 16, by rw [trips1]; omega⟩, ?_⟩
  unfold tripL_k0_t1 trip_k0_t1
  dsimp only
  simp only [List.exists_mem_cons_iff]
  have hc : (z 3).val / 128 = 0 ∨ (z 3).val / 128 = 1 := by omega
  have hh : (z 1).val = 0 ∨ (z 1).val = 1 := by omega
  have hu : (z 0).val = 0 ∨ (z 0).val = 1 ∨ (z 0).val = 2 ∨ (z 0).val = 3 := by omega
  rcases hu with hu | hu | hu | hu <;> rcases hh with hh | hh <;> rcases hc with hc | hc
  · exact .inr (.inr (.inr (.inr (.inr (.inr (.inr (.inr (.inr (.inr (.inr (.inr (.inr (.inr (.inr (.inl (lhs_mem 0 0 _ 0 (k0_off2_eq _) _ z hu hh rfl hc))))))))))))))))
  · exact .inr (.inr (.inr (.inr (.inr (.inr (.inr (.inr (.inr (.inr (.inr (.inr (.inr (.inr (.inl (lhs_mem 0 0 _ 1 (k0_off3_eq _) _ z hu hh rfl hc)))))))))))))))
  · exact .inr (.inr (.inr (.inr (.inr (.inr (.inr (.inr (.inr (.inr (.inr (.inr (.inr (.inl (lhs_mem 0 1 _ 0 (k0_off4_eq _) _ z hu hh rfl hc))))))))))))))
  · exact .inr (.inr (.inr (.inr (.inr (.inr (.inr (.inr (.inr (.inr (.inr (.inr (.inl (lhs_mem 0 1 _ 1 (k0_off5_eq _) _ z hu hh rfl hc)))))))))))))
  · exact .inr (.inr (.inr (.inr (.inr (.inr (.inr (.inr (.inr (.inr (.inr (.inl (lhs_mem 1 0 _ 0 (k0_off6_eq _) _ z hu hh rfl hc))))))))))))
  · exact .inr (.inr (.inr (.inr (.inr (.inr (.inr (.inr (.inr (.inr (.inl (lhs_mem 1 0 _ 1 (k0_off7_eq _) _ z hu hh rfl hc)))))))))))
  · exact .inr (.inr (.inr (.inr (.inr (.inr (.inr (.inr (.inr (.inl (lhs_mem 1 1 _ 0 (k0_off8_eq _) _ z hu hh rfl hc))))))))))
  · exact .inr (.inr (.inr (.inr (.inr (.inr (.inr (.inr (.inl (lhs_mem 1 1 _ 1 (k0_off9_eq _) _ z hu hh rfl hc)))))))))
  · exact .inr (.inr (.inr (.inr (.inr (.inr (.inr (.inl (lhs_mem 2 0 _ 0 (k0_off10_eq _) _ z hu hh rfl hc))))))))
  · exact .inr (.inr (.inr (.inr (.inr (.inr (.inl (lhs_mem 2 0 _ 1 (k0_off11_eq _) _ z hu hh rfl hc)))))))
  · exact .inr (.inr (.inr (.inr (.inr (.inl (lhs_mem 2 1 _ 0 (k0_off12_eq _) _ z hu hh rfl hc))))))
  · exact .inr (.inr (.inr (.inr (.inl (lhs_mem 2 1 _ 1 (k0_off13_eq _) _ z hu hh rfl hc)))))
  · exact .inr (.inr (.inr (.inl (lhs_mem 3 0 _ 0 (k0_off14_eq _) _ z hu hh rfl hc))))
  · exact .inr (.inr (.inl (lhs_mem 3 0 _ 1 (k0_off15_eq _) _ z hu hh rfl hc)))
  · exact .inr (.inl (lhs_mem 3 1 _ 0 (k0_off16_eq _) _ z hu hh rfl hc))
  · exact .inl (lhs_mem 3 1 _ 1 (k0_off17_eq _) _ z hu hh rfl hc)

/-- The scratch after the loop, whatever it held before. -/
theorem lhs_read (f : BufTy.Contents (Elt Ideal) arg10.view.ty) (z : S4x2x128x256.Idx) :
    arg10.view.read (Elt Ideal) (arg10.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 X2 k0_t1_loop.trips)) z
      = lhsAt (fun s => oTile (shard (arg2.view.read (Elt Ideal) X2) s)) z := by
  have hO : trip1O arg2 X2 = fun s => oTile (shard (arg2.view.read (Elt Ideal) X2) s) := funext fun k => trip1O_eq arg2 X2 k
  rw [← hO]
  refine View.read_writes_apply_of_pieces (v := arg10.view) (f := f) (lhsAt (trip1O arg2 X2)) (pb_k0_t1 (F := Ideal) Variants.none c none i arg1 harg1 arg2 harg2 arg3 harg3 arg4 harg4 arg5 harg5 arg6 harg6 arg7 harg7 arg8 harg8 arg9 harg9 arg10 harg10 arg11 harg11 arg12 harg12 X2 k0_t1_loop.trips) (fun p hp x => ?_) z ?_
  · obtain ⟨k, hk⟩ := (mem1 c i arg1 harg1 arg2 harg2 arg3 harg3 arg4 harg4 arg5 harg5 arg6 harg6 arg7 harg7 arg8 harg8 arg9 harg9 arg10 harg10 arg11 harg11 arg12 harg12 X2 p).mp hp
    exact trip1_pieces c i arg1 harg1 arg2 harg2 arg3 harg3 arg4 harg4 arg5 harg5 arg6 harg6 arg7 harg7 arg8 harg8 arg9 harg9 arg10 harg10 arg11 harg11 arg12 harg12 X2 k p hk x
  · obtain ⟨k, p, hp, hz⟩ := trip1_cover c i arg1 harg1 arg2 harg2 arg3 harg3 arg4 harg4 arg5 harg5 arg6 harg6 arg7 harg7 arg8 harg8 arg9 harg9 arg10 harg10 arg11 harg11 arg12 harg12 X2 z
    exact ⟨p, (mem1 c i arg1 harg1 arg2 harg2 arg3 harg3 arg4 harg4 arg5 harg5 arg6 harg6 arg7 harg7 arg8 harg8 arg9 harg9 arg10 harg10 arg11 harg11 arg12 harg12 X2 p).mpr ⟨k, hp⟩, hz⟩

end Cert.Hand
-- ==== Proof.TileVal.lean ====
/- The new residual at an index, and what one tile of the summing loops is worth. -/
module

public import proofs.«01_k».proof.Proof.LoopLhs

@[expose] public section

set_option maxRecDepth 16384

noncomputable section

namespace Cert.Hand

open Idealize.ShloMosaic Idealize.ShloMosaic.TcCoe Idealize.ShloMosaic.Tactic
open Cert.KernelIdeal Cert.KernelIdeal.Gen

/-- The new residual at an index: the shards' codes times their scales, the bias and the residual. -/
def NR (P : Vec Ideal S8x128x7168 .fp8e4m3) (x1 : Vec Ideal S8x1x224x128 .f32) (b : Vec Ideal S1x7168 .f32) (x : Vec Ideal S128x7168 .bf16)
    (z : S128x7168.Idx) : EReal :=
  (∑ s : Fin 8, (P (ix3 s (z 0) (z 1)) : EReal)
      * Pw (bexp (x1 (ix4 s 0 ⟨(z 1).val / 32, by have : (z 1).val < 7168 := (z 1).isLt; omega⟩ (z 0)))))
    + b (ix2 0 (z 1)) + x z

theorem lhsAt_ix4 (O : Fin 8 → FVec Ideal S128x256 .bf16) (u : Fin 4) (h : Fin 2) (r : Fin 128) (k : Fin 256) :
    lhsAt O (ix4 u h r k) = O ⟨r.val / 16, by omega⟩ (ix2 ⟨64 * (k.val / 128) + 16 * u.val + r.val % 16, by omega⟩ ⟨128 * h.val + k.val % 128, by omega⟩) := rfl

/-- The scratch's left half at a word: the exponent of the odd row. -/
theorem lhsAt_left (x1 : Vec Ideal S8x1x224x128 .f32) (u : Fin 4) (h : Fin 2) (r l : Fin 128) :
    (lhsAt (fun s => oTile (shard x1 s)) (ix4 u h r ⟨l.val, by omega⟩) : EReal)
      = (((2 ^ 23 * eOf (shard x1 ⟨r.val / 16, by omega⟩) ⟨128 * h.val + l.val, by omega⟩ ⟨2 * (16 * u.val + r.val % 16) + 1, by omega⟩ : ℕ) : ℝ) : EReal) := by
  have hl : l.val / 128 = 0 := by omega
  have hm : l.val % 128 = l.val := by omega
  rw [lhsAt_ix4]
  simp only [hl, hm]
  rw [oTile_apply, dif_pos (by show 64 * 0 + 16 * u.val + r.val % 16 < 64; omega)]
  simp only [Nat.mul_zero, Nat.zero_add]

/-- The scratch's right half at a word: the exponent of the even row. -/
theorem lhsAt_right (x1 : Vec Ideal S8x1x224x128 .f32) (u : Fin 4) (h : Fin 2) (r l : Fin 128) :
    (lhsAt (fun s => oTile (shard x1 s)) (ix4 u h r ⟨128 + l.val, by omega⟩) : EReal)
      = (((2 ^ 7 * eOf (shard x1 ⟨r.val / 16, by omega⟩) ⟨128 * h.val + l.val, by omega⟩ ⟨2 * (16 * u.val + r.val % 16), by omega⟩ : ℕ) : ℝ) : EReal) := by
  have hl : (128 + l.val) / 128 = 1 := by omega
  have hm : (128 + l.val) % 128 = l.val := by omega
  have ha : 64 * 1 + 16 * u.val + r.val % 16 - 64 = 16 * u.val + r.val % 16 := by omega
  rw [lhsAt_ix4]
  simp only [hl, hm]
  rw [oTile_apply, dif_neg (by show ¬ 64 * 1 + 16 * u.val + r.val % 16 < 64; omega)]
  simp only [ha]

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X1 : BufTy.Contents (Elt Ideal) arg1.view.ty) (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty)

/-- The codes of the eight shards a tile reads. -/
abbrev tileP (oP : Fin 8 → Fin S8x128x7168.rank → ℕ) (iP : ∀ s t, oP s t + (![1, 32, 128] : Fin 3 → ℕ) t ≤ S8x128x7168.size t) :
    Fin 8 → Vec Ideal S1x32x128 .fp8e4m3 :=
  fun s => arg1.view.readAt (Elt Ideal) (Rect.unit (s := S8x128x7168) (oP s) ![1, 32, 128] (iP s)).toLoadRect X1

/-- A tile is worth the new residual at its place. -/
theorem tile_val (x1 : Vec Ideal S8x1x224x128 .f32)
    (hL : ∀ z, arg10.view.read (Elt Ideal) X10 z = lhsAt (fun s => oTile (shard x1 s)) z)
    (hW : ∀ (m : Fin 16) (k l : Fin 256), arg9.view.read (Elt Ideal) X9 (ix3 m k l) = wSel m.val k l)
    (u : Fin 4) (n : ℕ) (hn : n < 28) (c : Fin 2)
    {oL : Fin S4x2x128x256.rank → ℕ} {oW : Fin S16x256x256.rank → ℕ} {oP : Fin 8 → Fin S8x128x7168.rank → ℕ} {ob : Fin S1x7168.rank → ℕ} {ox : Fin S128x7168.rank → ℕ}
    (hoL : oL = ![u.val, n / 16, 0, 0]) (hoW : oW = ![n % 16, 0, 0]) (hoP : ∀ s : Fin 8, oP s = ![s.val, 32 * u.val, 256 * n + 128 * c.val])
    (hob : ob = ![0, 256 * n + 128 * c.val]) (hox : ox = ![32 * u.val, 256 * n + 128 * c.val])
    (iL : ∀ t, oL t + (![1, 1, 128, 256] : Fin 4 → ℕ) t ≤ S4x2x128x256.size t) (iW : ∀ t, oW t + (![1, 256, 256] : Fin 3 → ℕ) t ≤ S16x256x256.size t)
    (iP : ∀ s t, oP s t + (![1, 32, 128] : Fin 3 → ℕ) t ≤ S8x128x7168.size t) (ib : ∀ t, ob t + (![1, 128] : Fin 2 → ℕ) t ≤ S1x7168.size t)
    (ix : ∀ t, ox t + (![32, 128] : Fin 2 → ℕ) t ≤ S128x7168.size t) (r : Fin 32) (l : Fin 128) :
    tileAt (k0_pay42 (arg10.view.readAt (Elt Ideal) (Rect.unit (s := S4x2x128x256) oL ![1, 1, 128, 256] iL).toLoadRect X10)
        (arg9.view.readAt (Elt Ideal) (Rect.unit (s := S16x256x256) oW ![1, 256, 256] iW).toLoadRect X9))
      (tileP arg1 X1 oP iP) (arg3.view.readAt (Elt Ideal) (Rect.unit (s := S1x7168) ob ![1, 128] ib).toLoadRect X3)
      (arg4.view.readAt (Elt Ideal) (Rect.unit (s := S128x7168) ox ![32, 128] ix).toLoadRect X4) c r l
      = NR (arg1.view.read (Elt Ideal) X1) x1 (arg3.view.read (Elt Ideal) X3) (arg4.view.read (Elt Ideal) X4)
          (ix2 ⟨32 * u.val + r.val, by omega⟩ ⟨256 * n + 128 * c.val + l.val, by omega⟩) := by
  have hl4 : ∀ rr k, arg10.view.readAt (Elt Ideal) (Rect.unit (s := S4x2x128x256) oL ![1, 1, 128, 256] iL).toLoadRect X10 (ix4 0 0 rr k)
      = lhsAt (fun s => oTile (shard x1 s)) (ix4 u ⟨n / 16, by omega⟩ rr k) := fun rr k => by
    rw [← hL]
    refine readAt_at _ _ _ hoL _ _ fun t => ?_
    fin_cases t
    · rfl
    · rfl
    · show rr.val = 0 + rr.val
      omega
    · show k.val = 0 + k.val
      omega
  have hw3 : ∀ k q : Fin 256, (arg9.view.readAt (Elt Ideal) (Rect.unit (s := S16x256x256) oW ![1, 256, 256] iW).toLoadRect X9 (ix3 0 k q) : EReal)
      = if k.val % 128 = 8 * (n % 16) + q.val / 32 then 1 else 0 := fun k q => by
    refine Eq.trans (readAt_at _ _ _ hoW _ (ix3 ⟨n % 16, by omega⟩ k q) fun t => ?_) (hW ⟨n % 16, by omega⟩ k q)
    fin_cases t
    · rfl
    · show k.val = 0 + k.val
      omega
    · show q.val = 0 + q.val
      omega
  have hsc : ∀ s : Fin 8, scOf (k0_pay42 (arg10.view.readAt (Elt Ideal) (Rect.unit (s := S4x2x128x256) oL ![1, 1, 128, 256] iL).toLoadRect X10)
        (arg9.view.readAt (Elt Ideal) (Rect.unit (s := S16x256x256) oW ![1, 256, 256] iW).toLoadRect X9)) s r c l
      = Pw (bexp (x1 (ix4 s 0 ⟨(256 * n + 128 * c.val + l.val) / 32, by omega⟩ ⟨32 * u.val + r.val, by omega⟩))) := fun s => by
    rw [scOf_val _ _
      (fun rr q => eOf (shard x1 ⟨rr.val / 16, by omega⟩) ⟨128 * (n / 16) + q.val, by omega⟩ ⟨2 * (16 * u.val + rr.val % 16) + 1, by omega⟩)
      (fun rr q => eOf (shard x1 ⟨rr.val / 16, by omega⟩) ⟨128 * (n / 16) + q.val, by omega⟩ ⟨2 * (16 * u.val + rr.val % 16), by omega⟩)
      (fun _ _ => eOf_lt _ _ _) (fun _ _ => eOf_lt _ _ _) (n % 16) (by omega)
      (fun rr q => (hl4 rr _).trans (lhsAt_left x1 u ⟨n / 16, by omega⟩ rr q)) (fun rr q => (hl4 rr _).trans (lhsAt_right x1 u ⟨n / 16, by omega⟩ rr q)) hw3]
    congr 1
    have hs : (16 * s.val + r.val / 2) / 16 = s.val := by omega
    have key : ∀ (a : ℕ) (ha : a < 8) (g : ℕ) (hg : g < 256) (q : ℕ) (hq : q < 128), a = s.val → g = (256 * n + 128 * c.val + l.val) / 32 → q = 32 * u.val + r.val →
        eOf (shard x1 ⟨a, ha⟩) ⟨g, hg⟩ ⟨q, hq⟩ = bexp (x1 (ix4 s 0 ⟨(256 * n + 128 * c.val + l.val) / 32, by omega⟩ ⟨32 * u.val + r.val, by omega⟩)) := by
      rintro a ha g hg q hq rfl rfl rfl
      unfold eOf
      rw [dif_pos (by show (256 * n + 128 * c.val + l.val) / 32 < 224; omega)]
      rfl
    split
    · exact key _ _ _ _ _ _ hs (by show 128 * (n / 16) + (8 * (n % 16) + 4 * c.val + l.val / 32) = _; omega) (by show 2 * (16 * u.val + (16 * s.val + r.val / 2) % 16) = _; omega)
    · exact key _ _ _ _ _ _ hs (by show 128 * (n / 16) + (8 * (n % 16) + 4 * c.val + l.val / 32) = _; omega) (by show 2 * (16 * u.val + (16 * s.val + r.val / 2) % 16) + 1 = _; omega)
  unfold tileAt NR
  congr 1
  · congr 1
    · refine Finset.sum_congr rfl fun s _ => ?_
      rw [hsc s]
      congr 1
      refine readAt_at _ _ _ (hoP s) _ _ fun t => ?_
      fin_cases t <;> rfl
    · refine readAt_at _ _ _ hob _ _ fun t => ?_
      fin_cases t <;> rfl
  · refine readAt_at _ _ _ hox _ _ fun t => ?_
    fin_cases t <;> rfl

end Cert.Hand
-- ==== Proof.LoopSum.lean ====
/- The summing loops: what each trip stores and carries. -/
module

public import proofs.«01_k».proof.Proof.TileVal

@[expose] public section

set_option maxRecDepth 16384

noncomputable section

namespace Cert.Hand

open Idealize.ShloMosaic Idealize.ShloMosaic.TcCoe Idealize.ShloMosaic.Tactic
open Cert.KernelIdeal Cert.KernelIdeal.Gen

theorem trips2 : k0_t2_loop.trips = 28 := by decide +kernel
theorem trips3 : k0_t3_loop.trips = 28 := by decide +kernel
theorem trips4 : k0_t4_loop.trips = 28 := by decide +kernel
theorem trips5 : k0_t5_loop.trips = 28 := by decide +kernel

theorem lhsOff2 : ∀ k : Fin k0_t2_loop.trips, k0_off18 k = ![0, k.val / 16, 0, 0] := by decide +kernel
theorem lhsOff3 : ∀ k : Fin k0_t3_loop.trips, k0_off30 k = ![1, k.val / 16, 0, 0] := by decide +kernel
theorem lhsOff4 : ∀ k : Fin k0_t4_loop.trips, k0_off42 k = ![2, k.val / 16, 0, 0] := by decide +kernel
theorem lhsOff5 : ∀ k : Fin k0_t5_loop.trips, k0_off54 k = ![3, k.val / 16, 0, 0] := by decide +kernel
theorem selOff2 : ∀ k : Fin k0_t2_loop.trips, k0_off19 k = ![k.val % 16, 0, 0] := by decide +kernel
theorem selOff3 : ∀ k : Fin k0_t3_loop.trips, k0_off31 k = ![k.val % 16, 0, 0] := by decide +kernel
theorem selOff4 : ∀ k : Fin k0_t4_loop.trips, k0_off43 k = ![k.val % 16, 0, 0] := by decide +kernel
theorem selOff5 : ∀ k : Fin k0_t5_loop.trips, k0_off55 k = ![k.val % 16, 0, 0] := by decide +kernel

/-- Where a trip of the loop for row block 0 reads the eight shards' codes. -/
def codeOff2 (k : Fin k0_t2_loop.trips) (b : BitVec 32) (s : Fin 8) : Fin S8x128x7168.rank → ℕ :=
  ![k0_off20 k b, k0_off21 k b, k0_off22 k b, k0_off23 k b, k0_off24 k b, k0_off25 k b, k0_off26 k b, k0_off27 k b] s
theorem codeOff2_eq (k : Fin k0_t2_loop.trips) (c : Fin 2) : ∀ s : Fin 8, codeOff2 k (BitVec.ofNat 32 (128 * c.val)) s = ![s.val, 32 * 0, 256 * k.val + 128 * c.val] :=
  fun s => match s with
  | 0 => k0_off20_eq k c
  | 1 => k0_off21_eq k c
  | 2 => k0_off22_eq k c
  | 3 => k0_off23_eq k c
  | 4 => k0_off24_eq k c
  | 5 => k0_off25_eq k c
  | 6 => k0_off26_eq k c
  | 7 => k0_off27_eq k c
/-- Where a trip of the loop for row block 1 reads the eight shards' codes. -/
def codeOff3 (k : Fin k0_t3_loop.trips) (b : BitVec 32) (s : Fin 8) : Fin S8x128x7168.rank → ℕ :=
  ![k0_off32 k b, k0_off33 k b, k0_off34 k b, k0_off35 k b, k0_off36 k b, k0_off37 k b, k0_off38 k b, k0_off39 k b] s
theorem codeOff3_eq (k : Fin k0_t3_loop.trips) (c : Fin 2) : ∀ s : Fin 8, codeOff3 k (BitVec.ofNat 32 (128 * c.val)) s = ![s.val, 32 * 1, 256 * k.val + 128 * c.val] :=
  fun s => match s with
  | 0 => k0_off32_eq k c
  | 1 => k0_off33_eq k c
  | 2 => k0_off34_eq k c
  | 3 => k0_off35_eq k c
  | 4 => k0_off36_eq k c
  | 5 => k0_off37_eq k c
  | 6 => k0_off38_eq k c
  | 7 => k0_off39_eq k c
/-- Where a trip of the loop for row block 2 reads the eight shards' codes. -/
def codeOff4 (k : Fin k0_t4_loop.trips) (b : BitVec 32) (s : Fin 8) : Fin S8x128x7168.rank → ℕ :=
  ![k0_off44 k b, k0_off45 k b, k0_off46 k b, k0_off47 k b, k0_off48 k b, k0_off49 k b, k0_off50 k b, k0_off51 k b] s
theorem codeOff4_eq (k : Fin k0_t4_loop.trips) (c : Fin 2) : ∀ s : Fin 8, codeOff4 k (BitVec.ofNat 32 (128 * c.val)) s = ![s.val, 32 * 2, 256 * k.val + 128 * c.val] :=
  fun s => match s with
  | 0 => k0_off44_eq k c
  | 1 => k0_off45_eq k c
  | 2 => k0_off46_eq k c
  | 3 => k0_off47_eq k c
  | 4 => k0_off48_eq k c
  | 5 => k0_off49_eq k c
  | 6 => k0_off50_eq k c
  | 7 => k0_off51_eq k c
/-- Where a trip of the loop for row block 3 reads the eight shards' codes. -/
def codeOff5 (k : Fin k0_t5_loop.trips) (b : BitVec 32) (s : Fin 8) : Fin S8x128x7168.rank → ℕ :=
  ![k0_off56 k b, k0_off57 k b, k0_off58 k b, k0_off59 k b, k0_off60 k b, k0_off61 k b, k0_off62 k b, k0_off63 k b] s
theorem codeOff5_eq (k : Fin k0_t5_loop.trips) (c : Fin 2) : ∀ s : Fin 8, codeOff5 k (BitVec.ofNat 32 (128 * c.val)) s = ![s.val, 32 * 3, 256 * k.val + 128 * c.val] :=
  fun s => match s with
  | 0 => k0_off56_eq k c
  | 1 => k0_off57_eq k c
  | 2 => k0_off58_eq k c
  | 3 => k0_off59_eq k c
  | 4 => k0_off60_eq k c
  | 5 => k0_off61_eq k c
  | 6 => k0_off62_eq k c
  | 7 => k0_off63_eq k c

theorem code_inb {o : Fin 8 → Fin S8x128x7168.rank → ℕ} (u : Fin 4) (n : ℕ) (hn : n < 28) (c : Fin 2)
    (ho : ∀ s : Fin 8, o s = ![s.val, 32 * u.val, 256 * n + 128 * c.val]) :
    ∀ s t, o s t + (![1, 32, 128] : Fin 3 → ℕ) t ≤ S8x128x7168.size t := by
  intro s t
  rw [ho s]
  fin_cases t
  · show s.val + 1 ≤ 8
    omega
  · show 32 * u.val + 32 ≤ 128
    omega
  · show 256 * n + 128 * c.val + 128 ≤ 7168
    omega

theorem lhs_inb {o : Fin S4x2x128x256.rank → ℕ} (u : Fin 4) (n : ℕ) (hn : n < 28) (ho : o = ![u.val, n / 16, 0, 0]) :
    ∀ t, o t + (![1, 1, 128, 256] : Fin 4 → ℕ) t ≤ S4x2x128x256.size t := by
  intro t
  subst ho
  fin_cases t
  · show u.val + 1 ≤ 4
    omega
  · show n / 16 + 1 ≤ 2
    omega
  · show 0 + 128 ≤ 128
    omega
  · show 0 + 256 ≤ 256
    omega

theorem sel_inb {o : Fin S16x256x256.rank → ℕ} (n : ℕ) (ho : o = ![n % 16, 0, 0]) :
    ∀ t, o t + (![1, 256, 256] : Fin 3 → ℕ) t ≤ S16x256x256.size t := by
  intro t
  subst ho
  fin_cases t
  · show n % 16 + 1 ≤ 16
    omega
  · show 0 + 256 ≤ 256
    omega
  · show 0 + 256 ≤ 256
    omega

theorem bias_inb {o : Fin S1x7168.rank → ℕ} (n : ℕ) (hn : n < 28) (c : Fin 2) (ho : o = ![0, 256 * n + 128 * c.val]) :
    ∀ t, o t + (![1, 128] : Fin 2 → ℕ) t ≤ S1x7168.size t := by
  intro t
  subst ho
  fin_cases t
  · show 0 + 1 ≤ 1
    omega
  · show 256 * n + 128 * c.val + 128 ≤ 7168
    omega

theorem x_inb {o : Fin S128x7168.rank → ℕ} (u : Fin 4) (n : ℕ) (hn : n < 28) (c : Fin 2) (ho : o = ![32 * u.val, 256 * n + 128 * c.val]) :
    ∀ t, o t + (![32, 128] : Fin 2 → ℕ) t ≤ S128x7168.size t := by
  intro t
  subst ho
  fin_cases t
  · show 32 * u.val + 32 ≤ 128
    omega
  · show 256 * n + 128 * c.val + 128 ≤ 7168
    omega

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X1 : BufTy.Contents (Elt Ideal) arg1.view.ty) (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty)

section
variable (k : Fin k0_t2_loop.trips) (iL) (iW) (iP0) (iP1) (ib0) (ib1) (ix0) (ix1)
theorem left2 : trip_k0_t2.sl.v296 arg1 arg3 arg4 arg9 arg10 X1 X3 X4 X9 X10 k
    = nrTile0 (arg10.view.readAt (Elt Ideal) (Rect.unit (s := S4x2x128x256) (k0_off18 k) ![1, 1, 128, 256] iL).toLoadRect X10) (arg9.view.readAt (Elt Ideal) (Rect.unit (s := S16x256x256) (k0_off19 k) ![1, 256, 256] iW).toLoadRect X9)
      (tileP arg1 X1 (codeOff2 k 0#32) iP0) (arg3.view.readAt (Elt Ideal) (Rect.unit (s := S1x7168) (k0_off28 k 0#32) ![1, 128] ib0).toLoadRect X3)
      (arg4.view.readAt (Elt Ideal) (Rect.unit (s := S128x7168) (k0_off29 k 0#32) ![32, 128] ix0).toLoadRect X4) := rfl
theorem right2 : trip_k0_t2.sl.v490 arg1 arg3 arg4 arg9 arg10 X1 X3 X4 X9 X10 k
    = nrTile1 (arg10.view.readAt (Elt Ideal) (Rect.unit (s := S4x2x128x256) (k0_off18 k) ![1, 1, 128, 256] iL).toLoadRect X10) (arg9.view.readAt (Elt Ideal) (Rect.unit (s := S16x256x256) (k0_off19 k) ![1, 256, 256] iW).toLoadRect X9)
      (tileP arg1 X1 (codeOff2 k 128#32) iP1) (arg3.view.readAt (Elt Ideal) (Rect.unit (s := S1x7168) (k0_off28 k 128#32) ![1, 128] ib1).toLoadRect X3)
      (arg4.view.readAt (Elt Ideal) (Rect.unit (s := S128x7168) (k0_off29 k 128#32) ![32, 128] ix1).toLoadRect X4) := rfl
theorem carry2 (acc : FVec Ideal S32x128 .f32) : tripR_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 k acc
    = k0_pay136 (k0_pay53 acc (preTile0 (arg10.view.readAt (Elt Ideal) (Rect.unit (s := S4x2x128x256) (k0_off18 k) ![1, 1, 128, 256] iL).toLoadRect X10) (arg9.view.readAt (Elt Ideal) (Rect.unit (s := S16x256x256) (k0_off19 k) ![1, 256, 256] iW).toLoadRect X9) (tileP arg1 X1 (codeOff2 k 0#32) iP0) (arg3.view.readAt (Elt Ideal) (Rect.unit (s := S1x7168) (k0_off28 k 0#32) ![1, 128] ib0).toLoadRect X3)) (arg4.view.readAt (Elt Ideal) (Rect.unit (s := S128x7168) (k0_off29 k 0#32) ![32, 128] ix0).toLoadRect X4))
      (nrTile1 (arg10.view.readAt (Elt Ideal) (Rect.unit (s := S4x2x128x256) (k0_off18 k) ![1, 1, 128, 256] iL).toLoadRect X10) (arg9.view.readAt (Elt Ideal) (Rect.unit (s := S16x256x256) (k0_off19 k) ![1, 256, 256] iW).toLoadRect X9)
        (tileP arg1 X1 (codeOff2 k 128#32) iP1) (arg3.view.readAt (Elt Ideal) (Rect.unit (s := S1x7168) (k0_off28 k 128#32) ![1, 128] ib1).toLoadRect X3)
        (arg4.view.readAt (Elt Ideal) (Rect.unit (s := S128x7168) (k0_off29 k 128#32) ![32, 128] ix1).toLoadRect X4)) := by
  unfold tripR_k0_t2 trip_k0_t2
  rfl
end

section
variable (k : Fin k0_t3_loop.trips) (iL) (iW) (iP0) (iP1) (ib0) (ib1) (ix0) (ix1)
theorem left3 : trip_k0_t3.sl.v296 arg1 arg3 arg4 arg9 arg10 X1 X3 X4 X9 X10 k
    = nrTile0 (arg10.view.readAt (Elt Ideal) (Rect.unit (s := S4x2x128x256) (k0_off30 k) ![1, 1, 128, 256] iL).toLoadRect X10) (arg9.view.readAt (Elt Ideal) (Rect.unit (s := S16x256x256) (k0_off31 k) ![1, 256, 256] iW).toLoadRect X9)
      (tileP arg1 X1 (codeOff3 k 0#32) iP0) (arg3.view.readAt (Elt Ideal) (Rect.unit (s := S1x7168) (k0_off40 k 0#32) ![1, 128] ib0).toLoadRect X3)
      (arg4.view.readAt (Elt Ideal) (Rect.unit (s := S128x7168) (k0_off41 k 0#32) ![32, 128] ix0).toLoadRect X4) := rfl
theorem right3 : trip_k0_t3.sl.v490 arg1 arg3 arg4 arg9 arg10 X1 X3 X4 X9 X10 k
    = nrTile1 (arg10.view.readAt (Elt Ideal) (Rect.unit (s := S4x2x128x256) (k0_off30 k) ![1, 1, 128, 256] iL).toLoadRect X10) (arg9.view.readAt (Elt Ideal) (Rect.unit (s := S16x256x256) (k0_off31 k) ![1, 256, 256] iW).toLoadRect X9)
      (tileP arg1 X1 (codeOff3 k 128#32) iP1) (arg3.view.readAt (Elt Ideal) (Rect.unit (s := S1x7168) (k0_off40 k 128#32) ![1, 128] ib1).toLoadRect X3)
      (arg4.view.readAt (Elt Ideal) (Rect.unit (s := S128x7168) (k0_off41 k 128#32) ![32, 128] ix1).toLoadRect X4) := rfl
theorem carry3 (acc : FVec Ideal S32x128 .f32) (v : FVec Ideal S32x1 .f32) (c15 : Ideal .f32) : tripR_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc
    = k0_pay136 (k0_pay53 acc (preTile0 (arg10.view.readAt (Elt Ideal) (Rect.unit (s := S4x2x128x256) (k0_off30 k) ![1, 1, 128, 256] iL).toLoadRect X10) (arg9.view.readAt (Elt Ideal) (Rect.unit (s := S16x256x256) (k0_off31 k) ![1, 256, 256] iW).toLoadRect X9) (tileP arg1 X1 (codeOff3 k 0#32) iP0) (arg3.view.readAt (Elt Ideal) (Rect.unit (s := S1x7168) (k0_off40 k 0#32) ![1, 128] ib0).toLoadRect X3)) (arg4.view.readAt (Elt Ideal) (Rect.unit (s := S128x7168) (k0_off41 k 0#32) ![32, 128] ix0).toLoadRect X4))
      (nrTile1 (arg10.view.readAt (Elt Ideal) (Rect.unit (s := S4x2x128x256) (k0_off30 k) ![1, 1, 128, 256] iL).toLoadRect X10) (arg9.view.readAt (Elt Ideal) (Rect.unit (s := S16x256x256) (k0_off31 k) ![1, 256, 256] iW).toLoadRect X9)
        (tileP arg1 X1 (codeOff3 k 128#32) iP1) (arg3.view.readAt (Elt Ideal) (Rect.unit (s := S1x7168) (k0_off40 k 128#32) ![1, 128] ib1).toLoadRect X3)
        (arg4.view.readAt (Elt Ideal) (Rect.unit (s := S128x7168) (k0_off41 k 128#32) ![32, 128] ix1).toLoadRect X4)) := by
  unfold tripR_k0_t3 trip_k0_t3
  rfl
end

section
variable (k : Fin k0_t4_loop.trips) (iL) (iW) (iP0) (iP1) (ib0) (ib1) (ix0) (ix1)
theorem left4 : trip_k0_t4.sl.v296 arg1 arg3 arg4 arg9 arg10 X1 X3 X4 X9 X10 k
    = nrTile0 (arg10.view.readAt (Elt Ideal) (Rect.unit (s := S4x2x128x256) (k0_off42 k) ![1, 1, 128, 256] iL).toLoadRect X10) (arg9.view.readAt (Elt Ideal) (Rect.unit (s := S16x256x256) (k0_off43 k) ![1, 256, 256] iW).toLoadRect X9)
      (tileP arg1 X1 (codeOff4 k 0#32) iP0) (arg3.view.readAt (Elt Ideal) (Rect.unit (s := S1x7168) (k0_off52 k 0#32) ![1, 128] ib0).toLoadRect X3)
      (arg4.view.readAt (Elt Ideal) (Rect.unit (s := S128x7168) (k0_off53 k 0#32) ![32, 128] ix0).toLoadRect X4) := rfl
theorem right4 : trip_k0_t4.sl.v490 arg1 arg3 arg4 arg9 arg10 X1 X3 X4 X9 X10 k
    = nrTile1 (arg10.view.readAt (Elt Ideal) (Rect.unit (s := S4x2x128x256) (k0_off42 k) ![1, 1, 128, 256] iL).toLoadRect X10) (arg9.view.readAt (Elt Ideal) (Rect.unit (s := S16x256x256) (k0_off43 k) ![1, 256, 256] iW).toLoadRect X9)
      (tileP arg1 X1 (codeOff4 k 128#32) iP1) (arg3.view.readAt (Elt Ideal) (Rect.unit (s := S1x7168) (k0_off52 k 128#32) ![1, 128] ib1).toLoadRect X3)
      (arg4.view.readAt (Elt Ideal) (Rect.unit (s := S128x7168) (k0_off53 k 128#32) ![32, 128] ix1).toLoadRect X4) := rfl
theorem carry4 (acc : FVec Ideal S32x128 .f32) (v : FVec Ideal S32x1 .f32) (c15 : Ideal .f32) : tripR_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc
    = k0_pay136 (k0_pay53 acc (preTile0 (arg10.view.readAt (Elt Ideal) (Rect.unit (s := S4x2x128x256) (k0_off42 k) ![1, 1, 128, 256] iL).toLoadRect X10) (arg9.view.readAt (Elt Ideal) (Rect.unit (s := S16x256x256) (k0_off43 k) ![1, 256, 256] iW).toLoadRect X9) (tileP arg1 X1 (codeOff4 k 0#32) iP0) (arg3.view.readAt (Elt Ideal) (Rect.unit (s := S1x7168) (k0_off52 k 0#32) ![1, 128] ib0).toLoadRect X3)) (arg4.view.readAt (Elt Ideal) (Rect.unit (s := S128x7168) (k0_off53 k 0#32) ![32, 128] ix0).toLoadRect X4))
      (nrTile1 (arg10.view.readAt (Elt Ideal) (Rect.unit (s := S4x2x128x256) (k0_off42 k) ![1, 1, 128, 256] iL).toLoadRect X10) (arg9.view.readAt (Elt Ideal) (Rect.unit (s := S16x256x256) (k0_off43 k) ![1, 256, 256] iW).toLoadRect X9)
        (tileP arg1 X1 (codeOff4 k 128#32) iP1) (arg3.view.readAt (Elt Ideal) (Rect.unit (s := S1x7168) (k0_off52 k 128#32) ![1, 128] ib1).toLoadRect X3)
        (arg4.view.readAt (Elt Ideal) (Rect.unit (s := S128x7168) (k0_off53 k 128#32) ![32, 128] ix1).toLoadRect X4)) := by
  unfold tripR_k0_t4 trip_k0_t4
  rfl
end

section
variable (k : Fin k0_t5_loop.trips) (iL) (iW) (iP0) (iP1) (ib0) (ib1) (ix0) (ix1)
theorem left5 : trip_k0_t5.sl.v296 arg1 arg3 arg4 arg9 arg10 X1 X3 X4 X9 X10 k
    = nrTile0 (arg10.view.readAt (Elt Ideal) (Rect.unit (s := S4x2x128x256) (k0_off54 k) ![1, 1, 128, 256] iL).toLoadRect X10) (arg9.view.readAt (Elt Ideal) (Rect.unit (s := S16x256x256) (k0_off55 k) ![1, 256, 256] iW).toLoadRect X9)
      (tileP arg1 X1 (codeOff5 k 0#32) iP0) (arg3.view.readAt (Elt Ideal) (Rect.unit (s := S1x7168) (k0_off64 k 0#32) ![1, 128] ib0).toLoadRect X3)
      (arg4.view.readAt (Elt Ideal) (Rect.unit (s := S128x7168) (k0_off65 k 0#32) ![32, 128] ix0).toLoadRect X4) := rfl
theorem right5 : trip_k0_t5.sl.v490 arg1 arg3 arg4 arg9 arg10 X1 X3 X4 X9 X10 k
    = nrTile1 (arg10.view.readAt (Elt Ideal) (Rect.unit (s := S4x2x128x256) (k0_off54 k) ![1, 1, 128, 256] iL).toLoadRect X10) (arg9.view.readAt (Elt Ideal) (Rect.unit (s := S16x256x256) (k0_off55 k) ![1, 256, 256] iW).toLoadRect X9)
      (tileP arg1 X1 (codeOff5 k 128#32) iP1) (arg3.view.readAt (Elt Ideal) (Rect.unit (s := S1x7168) (k0_off64 k 128#32) ![1, 128] ib1).toLoadRect X3)
      (arg4.view.readAt (Elt Ideal) (Rect.unit (s := S128x7168) (k0_off65 k 128#32) ![32, 128] ix1).toLoadRect X4) := rfl
theorem carry5 (acc : FVec Ideal S32x128 .f32) (v : FVec Ideal S32x1 .f32) (c15 : Ideal .f32) : tripR_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc
    = k0_pay136 (k0_pay53 acc (preTile0 (arg10.view.readAt (Elt Ideal) (Rect.unit (s := S4x2x128x256) (k0_off54 k) ![1, 1, 128, 256] iL).toLoadRect X10) (arg9.view.readAt (Elt Ideal) (Rect.unit (s := S16x256x256) (k0_off55 k) ![1, 256, 256] iW).toLoadRect X9) (tileP arg1 X1 (codeOff5 k 0#32) iP0) (arg3.view.readAt (Elt Ideal) (Rect.unit (s := S1x7168) (k0_off64 k 0#32) ![1, 128] ib0).toLoadRect X3)) (arg4.view.readAt (Elt Ideal) (Rect.unit (s := S128x7168) (k0_off65 k 0#32) ![32, 128] ix0).toLoadRect X4))
      (nrTile1 (arg10.view.readAt (Elt Ideal) (Rect.unit (s := S4x2x128x256) (k0_off54 k) ![1, 1, 128, 256] iL).toLoadRect X10) (arg9.view.readAt (Elt Ideal) (Rect.unit (s := S16x256x256) (k0_off55 k) ![1, 256, 256] iW).toLoadRect X9)
        (tileP arg1 X1 (codeOff5 k 128#32) iP1) (arg3.view.readAt (Elt Ideal) (Rect.unit (s := S1x7168) (k0_off64 k 128#32) ![1, 128] ib1).toLoadRect X3)
        (arg4.view.readAt (Elt Ideal) (Rect.unit (s := S128x7168) (k0_off65 k 128#32) ![32, 128] ix1).toLoadRect X4)) := by
  unfold tripR_k0_t5 trip_k0_t5
  rfl
end

end Cert.Hand
-- ==== Proof.SumVal.lean ====
/- The summing loops: the tiles they leave and the sums of squares they carry. -/
module

public import proofs.«01_k».proof.Proof.LoopSum

@[expose] public section

set_option maxRecDepth 16384

noncomputable section

namespace Cert.Hand

open Idealize.ShloMosaic Idealize.ShloMosaic.TcCoe Idealize.ShloMosaic.Tactic
open Cert.KernelIdeal Cert.KernelIdeal.Gen

/-- A carried value that each trip adds two terms to. -/
theorem carried_apply {V M : Type*} {n : ℕ} {st : ℕ → V × M} {R : Fin n → V → V} (hs : ∀ k : Fin n, (st (k.val + 1)).1 = R k (st k.val).1)
    (at' : V → EReal) (a b : ℕ → EReal) (hR : ∀ k acc, at' (R k acc) = at' acc + a k.val + b k.val) :
    ∀ m, m ≤ n → at' (st m).1 = at' (st 0).1 + ∑ j ∈ Finset.range m, (a j + b j)
  | 0, _ => by simp
  | m + 1, hm => by
    rw [hs ⟨m, hm⟩, hR, carried_apply hs at' a b hR m (by omega), Finset.sum_range_succ, add_assoc, add_assoc]

section
variable (P : Vec Ideal S8x128x7168 .fp8e4m3) (x1 : Vec Ideal S8x1x224x128 .f32) (b : Vec Ideal S1x7168 .f32) (x : Vec Ideal S128x7168 .bf16)

/-- The new residual by row and column, zero past the last column. -/
def NRc (r : Fin 128) (q : ℕ) : EReal := if h : q < 7168 then NR P x1 b x (ix2 r ⟨q, h⟩) else 0

/-- The sum of squares a row's lane has carried over all the tiles. -/
def sqLane (r : Fin 128) (l : Fin 128) : EReal :=
  ∑ j ∈ Finset.range 28, (NRc P x1 b x r (256 * j + l.val) * NRc P x1 b x r (256 * j + l.val)
    + NRc P x1 b x r (256 * j + 128 + l.val) * NRc P x1 b x r (256 * j + 128 + l.val))

theorem nr_piece (u : Fin 4) (n : ℕ) (hn : n < 28) (c : Fin 2) {off : Fin S128x7168.rank → ℕ} (hoff : off = ![32 * u.val, 256 * n + 128 * c.val])
    (inb : ∀ t, off t + (![32, 128] : Fin 2 → ℕ) t ≤ S128x7168.size t) (w : FVec Ideal S32x128 .bf16)
    (hw : ∀ (r : Fin 32) (l : Fin 128), w (ix2 r l) = NR P x1 b x (ix2 ⟨32 * u.val + r.val, by omega⟩ ⟨256 * n + 128 * c.val + l.val, by omega⟩))
    (y : S32x128.Idx) : w y = NR P x1 b x ((Rect.unit (s := S128x7168) off ![32, 128] inb).emb y) := by
  obtain ⟨r, l, rfl⟩ : ∃ r l, y = ix2 r l := ⟨_, _, eq_ix2 y⟩
  rw [hw r l]
  congr 1
  symm
  refine emb_at inb _ _ fun t => ?_
  subst hoff
  fin_cases t <;> rfl

end

theorem nr_mem (u : ℕ) (n c : ℕ) {off : Fin S128x7168.rank → ℕ} (hoff : off = ![32 * u, 256 * n + 128 * c])
    (inb : ∀ t, off t + (![32, 128] : Fin 2 → ℕ) t ≤ S128x7168.size t) (z : S128x7168.Idx)
    (h0 : (z 0).val / 32 = u) (h1 : (z 1).val / 256 = n) (h2 : (z 1).val / 128 % 2 = c) :
    z ∈ (Rect.unit (s := S128x7168) off ![32, 128] inb).set := by
  subst hoff
  rw [Rect.mem_set_unit]
  intro t
  fin_cases t
  · show 32 * u ≤ (z 0).val ∧ (z 0).val < 32 * u + 32
    omega
  · show 256 * n + 128 * c ≤ (z 1).val ∧ (z 1).val < 256 * n + 128 * c + 128
    omega

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X1 : BufTy.Contents (Elt Ideal) arg1.view.ty) (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty)

/-- The new residual of the blocks as loaded. -/
abbrev NRof (x1 : Vec Ideal S8x1x224x128 .f32) : S128x7168.Idx → EReal :=
  NR (arg1.view.read (Elt Ideal) X1) x1 (arg3.view.read (Elt Ideal) X3) (arg4.view.read (Elt Ideal) X4)

theorem sumsq_val (x1 : Vec Ideal S8x1x224x128 .f32) (u : Fin 4) (n : ℕ) (hn : n < 28) (acc out : FVec Ideal S32x128 .f32)
    (r : Fin 32) (l : Fin 128) (a b : EReal)
    (ha : a = NRof arg1 arg3 arg4 X1 X3 X4 x1 (ix2 ⟨32 * u.val + r.val, by omega⟩ ⟨256 * n + 128 * (0 : Fin 2).val + l.val, by show 256 * n + 0 + l.val < 7168; omega⟩))
    (hb : b = NRof arg1 arg3 arg4 X1 X3 X4 x1 (ix2 ⟨32 * u.val + r.val, by omega⟩ ⟨256 * n + 128 * (1 : Fin 2).val + l.val, by show 256 * n + 128 + l.val < 7168; omega⟩))
    (ho : out (ix2 r l) = acc (ix2 r l) + a * a + b * b) :
    out (ix2 r l) = acc (ix2 r l)
      + NRc (arg1.view.read (Elt Ideal) X1) x1 (arg3.view.read (Elt Ideal) X3) (arg4.view.read (Elt Ideal) X4) ⟨32 * u.val + r.val, by omega⟩ (256 * n + l.val)
        * NRc (arg1.view.read (Elt Ideal) X1) x1 (arg3.view.read (Elt Ideal) X3) (arg4.view.read (Elt Ideal) X4) ⟨32 * u.val + r.val, by omega⟩ (256 * n + l.val)
      + NRc (arg1.view.read (Elt Ideal) X1) x1 (arg3.view.read (Elt Ideal) X3) (arg4.view.read (Elt Ideal) X4) ⟨32 * u.val + r.val, by omega⟩ (256 * n + 128 + l.val)
        * NRc (arg1.view.read (Elt Ideal) X1) x1 (arg3.view.read (Elt Ideal) X3) (arg4.view.read (Elt Ideal) X4) ⟨32 * u.val + r.val, by omega⟩ (256 * n + 128 + l.val) := by
  unfold NRc
  rw [dif_pos (show 256 * n + l.val < 7168 by omega), dif_pos (show 256 * n + 128 + l.val < 7168 by omega), ho, ha, hb]
  rfl

variable (x1 : Vec Ideal S8x1x224x128 .f32)
    (hL : ∀ z, arg10.view.read (Elt Ideal) X10 z = lhsAt (fun s => oTile (shard x1 s)) z)
    (hW : ∀ (m : Fin 16) (k l : Fin 256), arg9.view.read (Elt Ideal) X9 (ix3 m k l) = wSel m.val k l)
include hL hW

/-! Rows 0 to 31. -/

theorem trip2_pieces (k : Fin k0_t2_loop.trips) (acc) : ∀ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 k acc,
    ∀ y, p.2 y = NRof arg1 arg3 arg4 X1 X3 X4 x1 (p.1.emb y) := by
  have hk : k.val < 28 := Nat.lt_of_lt_of_le k.isLt k0_t2_abs.2.1
  unfold tripL_k0_t2 trip_k0_t2
  dsimp only
  simp only [List.forall_mem_cons]
  refine ⟨?_, ?_, fun p hp => absurd hp List.not_mem_nil⟩
  · refine nr_piece _ x1 _ _ 0 k.val hk 1 (k0_off29_eq k 1) _ _ fun r l => ?_
    refine (congrFun (right2 arg1 arg3 arg4 arg9 arg10 X1 X3 X4 X9 X10 k (lhs_inb 0 k.val hk (lhsOff2 k)) (sel_inb k.val (selOff2 k)) (code_inb 0 k.val hk 1 (codeOff2_eq k 1)) (bias_inb k.val hk 1 (k0_off28_eq k 1)) (x_inb 0 k.val hk 1 (k0_off29_eq k 1))) _).trans ((nrTile1_apply ..).trans ?_)
    exact tile_val arg1 arg3 arg4 arg9 arg10 X1 X3 X4 X9 X10 x1 hL hW 0 k.val hk 1 (lhsOff2 k) (selOff2 k) (codeOff2_eq k 1) (k0_off28_eq k 1) (k0_off29_eq k 1) (lhs_inb 0 k.val hk (lhsOff2 k)) (sel_inb k.val (selOff2 k)) (code_inb 0 k.val hk 1 (codeOff2_eq k 1)) (bias_inb k.val hk 1 (k0_off28_eq k 1)) (x_inb 0 k.val hk 1 (k0_off29_eq k 1)) r l
  · refine nr_piece _ x1 _ _ 0 k.val hk 0 (k0_off29_eq k 0) _ _ fun r l => ?_
    refine (congrFun (left2 arg1 arg3 arg4 arg9 arg10 X1 X3 X4 X9 X10 k (lhs_inb 0 k.val hk (lhsOff2 k)) (sel_inb k.val (selOff2 k)) (code_inb 0 k.val hk 0 (codeOff2_eq k 0)) (bias_inb k.val hk 0 (k0_off28_eq k 0)) (x_inb 0 k.val hk 0 (k0_off29_eq k 0))) _).trans ((nrTile0_apply ..).trans ?_)
    exact tile_val arg1 arg3 arg4 arg9 arg10 X1 X3 X4 X9 X10 x1 hL hW 0 k.val hk 0 (lhsOff2 k) (selOff2 k) (codeOff2_eq k 0) (k0_off28_eq k 0) (k0_off29_eq k 0) (lhs_inb 0 k.val hk (lhsOff2 k)) (sel_inb k.val (selOff2 k)) (code_inb 0 k.val hk 0 (codeOff2_eq k 0)) (bias_inb k.val hk 0 (k0_off28_eq k 0)) (x_inb 0 k.val hk 0 (k0_off29_eq k 0)) r l

omit hL hW in
theorem mem2 (init) (p) : p ∈ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k0_t2_loop.trips).2
    ↔ ∃ k, p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 k (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k.val).1 := by
  rw [mem_trips (n := k0_t2_loop.trips) (pb := fun m => (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init m).2)
    (L := fun k => tripL_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 k (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k.val).1) rfl
    (fun k => congrArg Prod.snd (st_k0_t2_succ (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k)) p _ le_rfl]
  exact ⟨fun ⟨k, _, h⟩ => ⟨k, h⟩, fun ⟨k, h⟩ => ⟨k, k.isLt, h⟩⟩

theorem pieces2 (init) : ∀ p ∈ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k0_t2_loop.trips).2, ∀ y, p.2 y = NRof arg1 arg3 arg4 X1 X3 X4 x1 (p.1.emb y) := by
  intro p hp
  obtain ⟨k, hk⟩ := (mem2 c i arg1 harg1 arg2 harg2 arg3 harg3 arg4 harg4 arg5 harg5 arg6 harg6 arg7 harg7 arg8 harg8 arg9 harg9 arg10 harg10 arg11 harg11 arg12 harg12 X1 X3 X4 X9 X10 init p).mp hp
  exact trip2_pieces c i arg1 harg1 arg2 harg2 arg3 harg3 arg4 harg4 arg5 harg5 arg6 harg6 arg7 harg7 arg8 harg8 arg9 harg9 arg10 harg10 arg11 harg11 arg12 harg12 X1 X3 X4 X9 X10 x1 hL hW k _ p hk

omit hL hW in
theorem cover2 (init) (z : S128x7168.Idx) (hz : (z 0).val / 32 = 0) : ∃ p ∈ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k0_t2_loop.trips).2, z ∈ p.1.set := by
  have a1 : (z 1).val < 7168 := (z 1).isLt
  have key : ∃ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 ⟨(z 1).val / 256, by rw [trips2]; omega⟩
      (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init ((z 1).val / 256)).1, z ∈ p.1.set := by
    unfold tripL_k0_t2 trip_k0_t2
    dsimp only
    simp only [List.exists_mem_cons_iff]
    rcases (by omega : (z 1).val / 128 % 2 = 0 ∨ (z 1).val / 128 % 2 = 1) with h | h
    · exact .inr (.inl (nr_mem 0 _ 0 (k0_off29_eq _ 0) _ z hz rfl h))
    · exact .inl (nr_mem 0 _ 1 (k0_off29_eq _ 1) _ z hz rfl h)
  obtain ⟨p, hp, h⟩ := key
  exact ⟨p, (mem2 c i arg1 harg1 arg2 harg2 arg3 harg3 arg4 harg4 arg5 harg5 arg6 harg6 arg7 harg7 arg8 harg8 arg9 harg9 arg10 harg10 arg11 harg11 arg12 harg12 X1 X3 X4 X9 X10 init p).mpr ⟨_, hp⟩, h⟩

theorem step2 (k : Fin k0_t2_loop.trips) (acc : FVec Ideal S32x128 .f32) (r : Fin 32) (l : Fin 128) :
    tripR_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 k acc (ix2 r l)
      = acc (ix2 r l) + NRc (arg1.view.read (Elt Ideal) X1) x1 (arg3.view.read (Elt Ideal) X3) (arg4.view.read (Elt Ideal) X4) ⟨32 * (0 : Fin 4).val + r.val, by omega⟩ (256 * k.val + l.val) * NRc (arg1.view.read (Elt Ideal) X1) x1 (arg3.view.read (Elt Ideal) X3) (arg4.view.read (Elt Ideal) X4) ⟨32 * (0 : Fin 4).val + r.val, by omega⟩ (256 * k.val + l.val)
        + NRc (arg1.view.read (Elt Ideal) X1) x1 (arg3.view.read (Elt Ideal) X3) (arg4.view.read (Elt Ideal) X4) ⟨32 * (0 : Fin 4).val + r.val, by omega⟩ (256 * k.val + 128 + l.val) * NRc (arg1.view.read (Elt Ideal) X1) x1 (arg3.view.read (Elt Ideal) X3) (arg4.view.read (Elt Ideal) X4) ⟨32 * (0 : Fin 4).val + r.val, by omega⟩ (256 * k.val + 128 + l.val) := by
  have hk : k.val < 28 := Nat.lt_of_lt_of_le k.isLt k0_t2_abs.2.1
  have t0 := tile_val arg1 arg3 arg4 arg9 arg10 X1 X3 X4 X9 X10 x1 hL hW 0 k.val hk 0 (lhsOff2 k) (selOff2 k) (codeOff2_eq k 0) (k0_off28_eq k 0) (k0_off29_eq k 0) (lhs_inb 0 k.val hk (lhsOff2 k)) (sel_inb k.val (selOff2 k)) (code_inb 0 k.val hk 0 (codeOff2_eq k 0)) (bias_inb k.val hk 0 (k0_off28_eq k 0)) (x_inb 0 k.val hk 0 (k0_off29_eq k 0)) r l
  have t1 := tile_val arg1 arg3 arg4 arg9 arg10 X1 X3 X4 X9 X10 x1 hL hW 0 k.val hk 1 (lhsOff2 k) (selOff2 k) (codeOff2_eq k 1) (k0_off28_eq k 1) (k0_off29_eq k 1) (lhs_inb 0 k.val hk (lhsOff2 k)) (sel_inb k.val (selOff2 k)) (code_inb 0 k.val hk 1 (codeOff2_eq k 1)) (bias_inb k.val hk 1 (k0_off28_eq k 1)) (x_inb 0 k.val hk 1 (k0_off29_eq k 1)) r l
  have h := (congrFun (carry2 c i arg1 harg1 arg2 harg2 arg3 harg3 arg4 harg4 arg5 harg5 arg6 harg6 arg7 harg7 arg8 harg8 arg9 harg9 arg10 harg10 arg11 harg11 arg12 harg12 X1 X3 X4 X9 X10 k (lhs_inb 0 k.val hk (lhsOff2 k)) (sel_inb k.val (selOff2 k)) (code_inb 0 k.val hk 0 (codeOff2_eq k 0)) (code_inb 0 k.val hk 1 (codeOff2_eq k 1)) (bias_inb k.val hk 0 (k0_off28_eq k 0)) (bias_inb k.val hk 1 (k0_off28_eq k 1)) (x_inb 0 k.val hk 0 (k0_off29_eq k 0)) (x_inb 0 k.val hk 1 (k0_off29_eq k 1)) acc) (ix2 r l)).trans (sumsq_apply ..)
  exact sumsq_val arg1 arg3 arg4 X1 X3 X4 x1 0 k.val hk acc _ r l _ _ t0 t1 h

theorem sum2 (init : FVec Ideal S32x128 .f32) (h0 : ∀ j, init j = 0) (r : Fin 32) (l : Fin 128) :
    (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k0_t2_loop.trips).1 (ix2 r l)
      = sqLane (arg1.view.read (Elt Ideal) X1) x1 (arg3.view.read (Elt Ideal) X3) (arg4.view.read (Elt Ideal) X4) ⟨32 * (0 : Fin 4).val + r.val, by omega⟩ l := by
  have hs := carried_apply (n := k0_t2_loop.trips) (st := fun m => st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init m)
    (fun k => congrArg Prod.fst (st_k0_t2_succ (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 init k)) (fun v => (v (ix2 r l) : EReal))
    (fun j => NRc (arg1.view.read (Elt Ideal) X1) x1 (arg3.view.read (Elt Ideal) X3) (arg4.view.read (Elt Ideal) X4) ⟨32 * (0 : Fin 4).val + r.val, by omega⟩ (256 * j + l.val) * NRc (arg1.view.read (Elt Ideal) X1) x1 (arg3.view.read (Elt Ideal) X3) (arg4.view.read (Elt Ideal) X4) ⟨32 * (0 : Fin 4).val + r.val, by omega⟩ (256 * j + l.val)) (fun j => NRc (arg1.view.read (Elt Ideal) X1) x1 (arg3.view.read (Elt Ideal) X3) (arg4.view.read (Elt Ideal) X4) ⟨32 * (0 : Fin 4).val + r.val, by omega⟩ (256 * j + 128 + l.val) * NRc (arg1.view.read (Elt Ideal) X1) x1 (arg3.view.read (Elt Ideal) X3) (arg4.view.read (Elt Ideal) X4) ⟨32 * (0 : Fin 4).val + r.val, by omega⟩ (256 * j + 128 + l.val))
    (fun k acc => step2 c i arg1 harg1 arg2 harg2 arg3 harg3 arg4 harg4 arg5 harg5 arg6 harg6 arg7 harg7 arg8 harg8 arg9 harg9 arg10 harg10 arg11 harg11 arg12 harg12 X1 X3 X4 X9 X10 x1 hL hW k acc r l) _ le_rfl
  refine hs.trans ?_
  show init (ix2 r l) + _ = _
  rw [h0, zero_add, trips2]
  rfl

/-! Rows 32 to 63. -/

theorem trip3_pieces (k : Fin k0_t3_loop.trips) (v : FVec Ideal S32x1 .f32) (c15 : Ideal .f32) (acc) : ∀ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc,
    ∀ y, p.2 y = NRof arg1 arg3 arg4 X1 X3 X4 x1 (p.1.emb y) := by
  have hk : k.val < 28 := Nat.lt_of_lt_of_le k.isLt k0_t3_abs.2.1
  unfold tripL_k0_t3 trip_k0_t3
  dsimp only
  simp only [List.forall_mem_cons]
  refine ⟨?_, ?_, fun p hp => absurd hp List.not_mem_nil⟩
  · refine nr_piece _ x1 _ _ 1 k.val hk 1 (k0_off41_eq k 1) _ _ fun r l => ?_
    refine (congrFun (right3 arg1 arg3 arg4 arg9 arg10 X1 X3 X4 X9 X10 k (lhs_inb 1 k.val hk (lhsOff3 k)) (sel_inb k.val (selOff3 k)) (code_inb 1 k.val hk 1 (codeOff3_eq k 1)) (bias_inb k.val hk 1 (k0_off40_eq k 1)) (x_inb 1 k.val hk 1 (k0_off41_eq k 1))) _).trans ((nrTile1_apply ..).trans ?_)
    exact tile_val arg1 arg3 arg4 arg9 arg10 X1 X3 X4 X9 X10 x1 hL hW 1 k.val hk 1 (lhsOff3 k) (selOff3 k) (codeOff3_eq k 1) (k0_off40_eq k 1) (k0_off41_eq k 1) (lhs_inb 1 k.val hk (lhsOff3 k)) (sel_inb k.val (selOff3 k)) (code_inb 1 k.val hk 1 (codeOff3_eq k 1)) (bias_inb k.val hk 1 (k0_off40_eq k 1)) (x_inb 1 k.val hk 1 (k0_off41_eq k 1)) r l
  · refine nr_piece _ x1 _ _ 1 k.val hk 0 (k0_off41_eq k 0) _ _ fun r l => ?_
    refine (congrFun (left3 arg1 arg3 arg4 arg9 arg10 X1 X3 X4 X9 X10 k (lhs_inb 1 k.val hk (lhsOff3 k)) (sel_inb k.val (selOff3 k)) (code_inb 1 k.val hk 0 (codeOff3_eq k 0)) (bias_inb k.val hk 0 (k0_off40_eq k 0)) (x_inb 1 k.val hk 0 (k0_off41_eq k 0))) _).trans ((nrTile0_apply ..).trans ?_)
    exact tile_val arg1 arg3 arg4 arg9 arg10 X1 X3 X4 X9 X10 x1 hL hW 1 k.val hk 0 (lhsOff3 k) (selOff3 k) (codeOff3_eq k 0) (k0_off40_eq k 0) (k0_off41_eq k 0) (lhs_inb 1 k.val hk (lhsOff3 k)) (sel_inb k.val (selOff3 k)) (code_inb 1 k.val hk 0 (codeOff3_eq k 0)) (bias_inb k.val hk 0 (k0_off40_eq k 0)) (x_inb 1 k.val hk 0 (k0_off41_eq k 0)) r l

omit hL hW in
theorem mem3 (v : FVec Ideal S32x1 .f32) (c15 : Ideal .f32) (init) (p) : p ∈ (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t3_loop.trips).2
    ↔ ∃ k, p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1 := by
  rw [mem_trips (n := k0_t3_loop.trips) (pb := fun m => (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m).2)
    (L := fun k => tripL_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1) rfl
    (fun k => congrArg Prod.snd (st_k0_t3_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) p _ le_rfl]
  exact ⟨fun ⟨k, _, h⟩ => ⟨k, h⟩, fun ⟨k, h⟩ => ⟨k, k.isLt, h⟩⟩

theorem pieces3 (v : FVec Ideal S32x1 .f32) (c15 : Ideal .f32) (init) : ∀ p ∈ (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t3_loop.trips).2, ∀ y, p.2 y = NRof arg1 arg3 arg4 X1 X3 X4 x1 (p.1.emb y) := by
  intro p hp
  obtain ⟨k, hk⟩ := (mem3 c i arg1 harg1 arg2 harg2 arg3 harg3 arg4 harg4 arg5 harg5 arg6 harg6 arg7 harg7 arg8 harg8 arg9 harg9 arg10 harg10 arg11 harg11 arg12 harg12 X1 X3 X4 X9 X10 v c15 init p).mp hp
  exact trip3_pieces c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 _ p hk

omit hL hW in
theorem cover3 (v : FVec Ideal S32x1 .f32) (c15 : Ideal .f32) (init) (z : S128x7168.Idx) (hz : (z 0).val / 32 = 1) : ∃ p ∈ (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t3_loop.trips).2, z ∈ p.1.set := by
  have a1 : (z 1).val < 7168 := (z 1).isLt
  have key : ∃ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 ⟨(z 1).val / 256, by rw [trips3]; omega⟩
      (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init ((z 1).val / 256)).1, z ∈ p.1.set := by
    unfold tripL_k0_t3 trip_k0_t3
    dsimp only
    simp only [List.exists_mem_cons_iff]
    rcases (by omega : (z 1).val / 128 % 2 = 0 ∨ (z 1).val / 128 % 2 = 1) with h | h
    · exact .inr (.inl (nr_mem 1 _ 0 (k0_off41_eq _ 0) _ z hz rfl h))
    · exact .inl (nr_mem 1 _ 1 (k0_off41_eq _ 1) _ z hz rfl h)
  obtain ⟨p, hp, h⟩ := key
  exact ⟨p, (mem3 c i arg1 harg1 arg2 harg2 arg3 harg3 arg4 harg4 arg5 harg5 arg6 harg6 arg7 harg7 arg8 harg8 arg9 harg9 arg10 harg10 arg11 harg11 arg12 harg12 X1 X3 X4 X9 X10 v c15 init p).mpr ⟨_, hp⟩, h⟩

theorem step3 (k : Fin k0_t3_loop.trips) (v : FVec Ideal S32x1 .f32) (c15 : Ideal .f32) (acc : FVec Ideal S32x128 .f32) (r : Fin 32) (l : Fin 128) :
    tripR_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc (ix2 r l)
      = acc (ix2 r l) + NRc (arg1.view.read (Elt Ideal) X1) x1 (arg3.view.read (Elt Ideal) X3) (arg4.view.read (Elt Ideal) X4) ⟨32 * (1 : Fin 4).val + r.val, by omega⟩ (256 * k.val + l.val) * NRc (arg1.view.read (Elt Ideal) X1) x1 (arg3.view.read (Elt Ideal) X3) (arg4.view.read (Elt Ideal) X4) ⟨32 * (1 : Fin 4).val + r.val, by omega⟩ (256 * k.val + l.val)
        + NRc (arg1.view.read (Elt Ideal) X1) x1 (arg3.view.read (Elt Ideal) X3) (arg4.view.read (Elt Ideal) X4) ⟨32 * (1 : Fin 4).val + r.val, by omega⟩ (256 * k.val + 128 + l.val) * NRc (arg1.view.read (Elt Ideal) X1) x1 (arg3.view.read (Elt Ideal) X3) (arg4.view.read (Elt Ideal) X4) ⟨32 * (1 : Fin 4).val + r.val, by omega⟩ (256 * k.val + 128 + l.val) := by
  have hk : k.val < 28 := Nat.lt_of_lt_of_le k.isLt k0_t3_abs.2.1
  have t0 := tile_val arg1 arg3 arg4 arg9 arg10 X1 X3 X4 X9 X10 x1 hL hW 1 k.val hk 0 (lhsOff3 k) (selOff3 k) (codeOff3_eq k 0) (k0_off40_eq k 0) (k0_off41_eq k 0) (lhs_inb 1 k.val hk (lhsOff3 k)) (sel_inb k.val (selOff3 k)) (code_inb 1 k.val hk 0 (codeOff3_eq k 0)) (bias_inb k.val hk 0 (k0_off40_eq k 0)) (x_inb 1 k.val hk 0 (k0_off41_eq k 0)) r l
  have t1 := tile_val arg1 arg3 arg4 arg9 arg10 X1 X3 X4 X9 X10 x1 hL hW 1 k.val hk 1 (lhsOff3 k) (selOff3 k) (codeOff3_eq k 1) (k0_off40_eq k 1) (k0_off41_eq k 1) (lhs_inb 1 k.val hk (lhsOff3 k)) (sel_inb k.val (selOff3 k)) (code_inb 1 k.val hk 1 (codeOff3_eq k 1)) (bias_inb k.val hk 1 (k0_off40_eq k 1)) (x_inb 1 k.val hk 1 (k0_off41_eq k 1)) r l
  have h := (congrFun (carry3 c i arg1 harg1 arg2 harg2 arg3 harg3 arg4 harg4 arg5 harg5 arg6 harg6 arg7 harg7 arg8 harg8 arg9 harg9 arg10 harg10 arg11 harg11 arg12 harg12 X1 X3 X4 X9 X10 k (lhs_inb 1 k.val hk (lhsOff3 k)) (sel_inb k.val (selOff3 k)) (code_inb 1 k.val hk 0 (codeOff3_eq k 0)) (code_inb 1 k.val hk 1 (codeOff3_eq k 1)) (bias_inb k.val hk 0 (k0_off40_eq k 0)) (bias_inb k.val hk 1 (k0_off40_eq k 1)) (x_inb 1 k.val hk 0 (k0_off41_eq k 0)) (x_inb 1 k.val hk 1 (k0_off41_eq k 1)) acc v c15) (ix2 r l)).trans (sumsq_apply ..)
  exact sumsq_val arg1 arg3 arg4 X1 X3 X4 x1 1 k.val hk acc _ r l _ _ t0 t1 h

theorem sum3 (v : FVec Ideal S32x1 .f32) (c15 : Ideal .f32) (init : FVec Ideal S32x128 .f32) (h0 : ∀ j, init j = 0) (r : Fin 32) (l : Fin 128) :
    (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t3_loop.trips).1 (ix2 r l)
      = sqLane (arg1.view.read (Elt Ideal) X1) x1 (arg3.view.read (Elt Ideal) X3) (arg4.view.read (Elt Ideal) X4) ⟨32 * (1 : Fin 4).val + r.val, by omega⟩ l := by
  have hs := carried_apply (n := k0_t3_loop.trips) (st := fun m => st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m)
    (fun k => congrArg Prod.fst (st_k0_t3_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) (fun v => (v (ix2 r l) : EReal))
    (fun j => NRc (arg1.view.read (Elt Ideal) X1) x1 (arg3.view.read (Elt Ideal) X3) (arg4.view.read (Elt Ideal) X4) ⟨32 * (1 : Fin 4).val + r.val, by omega⟩ (256 * j + l.val) * NRc (arg1.view.read (Elt Ideal) X1) x1 (arg3.view.read (Elt Ideal) X3) (arg4.view.read (Elt Ideal) X4) ⟨32 * (1 : Fin 4).val + r.val, by omega⟩ (256 * j + l.val)) (fun j => NRc (arg1.view.read (Elt Ideal) X1) x1 (arg3.view.read (Elt Ideal) X3) (arg4.view.read (Elt Ideal) X4) ⟨32 * (1 : Fin 4).val + r.val, by omega⟩ (256 * j + 128 + l.val) * NRc (arg1.view.read (Elt Ideal) X1) x1 (arg3.view.read (Elt Ideal) X3) (arg4.view.read (Elt Ideal) X4) ⟨32 * (1 : Fin 4).val + r.val, by omega⟩ (256 * j + 128 + l.val))
    (fun k acc => step3 c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 acc r l) _ le_rfl
  refine hs.trans ?_
  show init (ix2 r l) + _ = _
  rw [h0, zero_add, trips3]
  rfl

/-! Rows 64 to 95. -/

theorem trip4_pieces (k : Fin k0_t4_loop.trips) (v : FVec Ideal S32x1 .f32) (c15 : Ideal .f32) (acc) : ∀ p ∈ tripL_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc,
    ∀ y, p.2 y = NRof arg1 arg3 arg4 X1 X3 X4 x1 (p.1.emb y) := by
  have hk : k.val < 28 := Nat.lt_of_lt_of_le k.isLt k0_t4_abs.2.1
  unfold tripL_k0_t4 trip_k0_t4
  dsimp only
  simp only [List.forall_mem_cons]
  refine ⟨?_, ?_, fun p hp => absurd hp List.not_mem_nil⟩
  · refine nr_piece _ x1 _ _ 2 k.val hk 1 (k0_off53_eq k 1) _ _ fun r l => ?_
    refine (congrFun (right4 arg1 arg3 arg4 arg9 arg10 X1 X3 X4 X9 X10 k (lhs_inb 2 k.val hk (lhsOff4 k)) (sel_inb k.val (selOff4 k)) (code_inb 2 k.val hk 1 (codeOff4_eq k 1)) (bias_inb k.val hk 1 (k0_off52_eq k 1)) (x_inb 2 k.val hk 1 (k0_off53_eq k 1))) _).trans ((nrTile1_apply ..).trans ?_)
    exact tile_val arg1 arg3 arg4 arg9 arg10 X1 X3 X4 X9 X10 x1 hL hW 2 k.val hk 1 (lhsOff4 k) (selOff4 k) (codeOff4_eq k 1) (k0_off52_eq k 1) (k0_off53_eq k 1) (lhs_inb 2 k.val hk (lhsOff4 k)) (sel_inb k.val (selOff4 k)) (code_inb 2 k.val hk 1 (codeOff4_eq k 1)) (bias_inb k.val hk 1 (k0_off52_eq k 1)) (x_inb 2 k.val hk 1 (k0_off53_eq k 1)) r l
  · refine nr_piece _ x1 _ _ 2 k.val hk 0 (k0_off53_eq k 0) _ _ fun r l => ?_
    refine (congrFun (left4 arg1 arg3 arg4 arg9 arg10 X1 X3 X4 X9 X10 k (lhs_inb 2 k.val hk (lhsOff4 k)) (sel_inb k.val (selOff4 k)) (code_inb 2 k.val hk 0 (codeOff4_eq k 0)) (bias_inb k.val hk 0 (k0_off52_eq k 0)) (x_inb 2 k.val hk 0 (k0_off53_eq k 0))) _).trans ((nrTile0_apply ..).trans ?_)
    exact tile_val arg1 arg3 arg4 arg9 arg10 X1 X3 X4 X9 X10 x1 hL hW 2 k.val hk 0 (lhsOff4 k) (selOff4 k) (codeOff4_eq k 0) (k0_off52_eq k 0) (k0_off53_eq k 0) (lhs_inb 2 k.val hk (lhsOff4 k)) (sel_inb k.val (selOff4 k)) (code_inb 2 k.val hk 0 (codeOff4_eq k 0)) (bias_inb k.val hk 0 (k0_off52_eq k 0)) (x_inb 2 k.val hk 0 (k0_off53_eq k 0)) r l

omit hL hW in
theorem mem4 (v : FVec Ideal S32x1 .f32) (c15 : Ideal .f32) (init) (p) : p ∈ (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t4_loop.trips).2
    ↔ ∃ k, p ∈ tripL_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1 := by
  rw [mem_trips (n := k0_t4_loop.trips) (pb := fun m => (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m).2)
    (L := fun k => tripL_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1) rfl
    (fun k => congrArg Prod.snd (st_k0_t4_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) p _ le_rfl]
  exact ⟨fun ⟨k, _, h⟩ => ⟨k, h⟩, fun ⟨k, h⟩ => ⟨k, k.isLt, h⟩⟩

theorem pieces4 (v : FVec Ideal S32x1 .f32) (c15 : Ideal .f32) (init) : ∀ p ∈ (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t4_loop.trips).2, ∀ y, p.2 y = NRof arg1 arg3 arg4 X1 X3 X4 x1 (p.1.emb y) := by
  intro p hp
  obtain ⟨k, hk⟩ := (mem4 c i arg1 harg1 arg2 harg2 arg3 harg3 arg4 harg4 arg5 harg5 arg6 harg6 arg7 harg7 arg8 harg8 arg9 harg9 arg10 harg10 arg11 harg11 arg12 harg12 X1 X3 X4 X9 X10 v c15 init p).mp hp
  exact trip4_pieces c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 _ p hk

omit hL hW in
theorem cover4 (v : FVec Ideal S32x1 .f32) (c15 : Ideal .f32) (init) (z : S128x7168.Idx) (hz : (z 0).val / 32 = 2) : ∃ p ∈ (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t4_loop.trips).2, z ∈ p.1.set := by
  have a1 : (z 1).val < 7168 := (z 1).isLt
  have key : ∃ p ∈ tripL_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 ⟨(z 1).val / 256, by rw [trips4]; omega⟩
      (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init ((z 1).val / 256)).1, z ∈ p.1.set := by
    unfold tripL_k0_t4 trip_k0_t4
    dsimp only
    simp only [List.exists_mem_cons_iff]
    rcases (by omega : (z 1).val / 128 % 2 = 0 ∨ (z 1).val / 128 % 2 = 1) with h | h
    · exact .inr (.inl (nr_mem 2 _ 0 (k0_off53_eq _ 0) _ z hz rfl h))
    · exact .inl (nr_mem 2 _ 1 (k0_off53_eq _ 1) _ z hz rfl h)
  obtain ⟨p, hp, h⟩ := key
  exact ⟨p, (mem4 c i arg1 harg1 arg2 harg2 arg3 harg3 arg4 harg4 arg5 harg5 arg6 harg6 arg7 harg7 arg8 harg8 arg9 harg9 arg10 harg10 arg11 harg11 arg12 harg12 X1 X3 X4 X9 X10 v c15 init p).mpr ⟨_, hp⟩, h⟩

theorem step4 (k : Fin k0_t4_loop.trips) (v : FVec Ideal S32x1 .f32) (c15 : Ideal .f32) (acc : FVec Ideal S32x128 .f32) (r : Fin 32) (l : Fin 128) :
    tripR_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc (ix2 r l)
      = acc (ix2 r l) + NRc (arg1.view.read (Elt Ideal) X1) x1 (arg3.view.read (Elt Ideal) X3) (arg4.view.read (Elt Ideal) X4) ⟨32 * (2 : Fin 4).val + r.val, by omega⟩ (256 * k.val + l.val) * NRc (arg1.view.read (Elt Ideal) X1) x1 (arg3.view.read (Elt Ideal) X3) (arg4.view.read (Elt Ideal) X4) ⟨32 * (2 : Fin 4).val + r.val, by omega⟩ (256 * k.val + l.val)
        + NRc (arg1.view.read (Elt Ideal) X1) x1 (arg3.view.read (Elt Ideal) X3) (arg4.view.read (Elt Ideal) X4) ⟨32 * (2 : Fin 4).val + r.val, by omega⟩ (256 * k.val + 128 + l.val) * NRc (arg1.view.read (Elt Ideal) X1) x1 (arg3.view.read (Elt Ideal) X3) (arg4.view.read (Elt Ideal) X4) ⟨32 * (2 : Fin 4).val + r.val, by omega⟩ (256 * k.val + 128 + l.val) := by
  have hk : k.val < 28 := Nat.lt_of_lt_of_le k.isLt k0_t4_abs.2.1
  have t0 := tile_val arg1 arg3 arg4 arg9 arg10 X1 X3 X4 X9 X10 x1 hL hW 2 k.val hk 0 (lhsOff4 k) (selOff4 k) (codeOff4_eq k 0) (k0_off52_eq k 0) (k0_off53_eq k 0) (lhs_inb 2 k.val hk (lhsOff4 k)) (sel_inb k.val (selOff4 k)) (code_inb 2 k.val hk 0 (codeOff4_eq k 0)) (bias_inb k.val hk 0 (k0_off52_eq k 0)) (x_inb 2 k.val hk 0 (k0_off53_eq k 0)) r l
  have t1 := tile_val arg1 arg3 arg4 arg9 arg10 X1 X3 X4 X9 X10 x1 hL hW 2 k.val hk 1 (lhsOff4 k) (selOff4 k) (codeOff4_eq k 1) (k0_off52_eq k 1) (k0_off53_eq k 1) (lhs_inb 2 k.val hk (lhsOff4 k)) (sel_inb k.val (selOff4 k)) (code_inb 2 k.val hk 1 (codeOff4_eq k 1)) (bias_inb k.val hk 1 (k0_off52_eq k 1)) (x_inb 2 k.val hk 1 (k0_off53_eq k 1)) r l
  have h := (congrFun (carry4 c i arg1 harg1 arg2 harg2 arg3 harg3 arg4 harg4 arg5 harg5 arg6 harg6 arg7 harg7 arg8 harg8 arg9 harg9 arg10 harg10 arg11 harg11 arg12 harg12 X1 X3 X4 X9 X10 k (lhs_inb 2 k.val hk (lhsOff4 k)) (sel_inb k.val (selOff4 k)) (code_inb 2 k.val hk 0 (codeOff4_eq k 0)) (code_inb 2 k.val hk 1 (codeOff4_eq k 1)) (bias_inb k.val hk 0 (k0_off52_eq k 0)) (bias_inb k.val hk 1 (k0_off52_eq k 1)) (x_inb 2 k.val hk 0 (k0_off53_eq k 0)) (x_inb 2 k.val hk 1 (k0_off53_eq k 1)) acc v c15) (ix2 r l)).trans (sumsq_apply ..)
  exact sumsq_val arg1 arg3 arg4 X1 X3 X4 x1 2 k.val hk acc _ r l _ _ t0 t1 h

theorem sum4 (v : FVec Ideal S32x1 .f32) (c15 : Ideal .f32) (init : FVec Ideal S32x128 .f32) (h0 : ∀ j, init j = 0) (r : Fin 32) (l : Fin 128) :
    (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t4_loop.trips).1 (ix2 r l)
      = sqLane (arg1.view.read (Elt Ideal) X1) x1 (arg3.view.read (Elt Ideal) X3) (arg4.view.read (Elt Ideal) X4) ⟨32 * (2 : Fin 4).val + r.val, by omega⟩ l := by
  have hs := carried_apply (n := k0_t4_loop.trips) (st := fun m => st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m)
    (fun k => congrArg Prod.fst (st_k0_t4_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) (fun v => (v (ix2 r l) : EReal))
    (fun j => NRc (arg1.view.read (Elt Ideal) X1) x1 (arg3.view.read (Elt Ideal) X3) (arg4.view.read (Elt Ideal) X4) ⟨32 * (2 : Fin 4).val + r.val, by omega⟩ (256 * j + l.val) * NRc (arg1.view.read (Elt Ideal) X1) x1 (arg3.view.read (Elt Ideal) X3) (arg4.view.read (Elt Ideal) X4) ⟨32 * (2 : Fin 4).val + r.val, by omega⟩ (256 * j + l.val)) (fun j => NRc (arg1.view.read (Elt Ideal) X1) x1 (arg3.view.read (Elt Ideal) X3) (arg4.view.read (Elt Ideal) X4) ⟨32 * (2 : Fin 4).val + r.val, by omega⟩ (256 * j + 128 + l.val) * NRc (arg1.view.read (Elt Ideal) X1) x1 (arg3.view.read (Elt Ideal) X3) (arg4.view.read (Elt Ideal) X4) ⟨32 * (2 : Fin 4).val + r.val, by omega⟩ (256 * j + 128 + l.val))
    (fun k acc => step4 c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 acc r l) _ le_rfl
  refine hs.trans ?_
  show init (ix2 r l) + _ = _
  rw [h0, zero_add, trips4]
  rfl

/-! Rows 96 to 127. -/

theorem trip5_pieces (k : Fin k0_t5_loop.trips) (v : FVec Ideal S32x1 .f32) (c15 : Ideal .f32) (acc) : ∀ p ∈ tripL_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc,
    ∀ y, p.2 y = NRof arg1 arg3 arg4 X1 X3 X4 x1 (p.1.emb y) := by
  have hk : k.val < 28 := Nat.lt_of_lt_of_le k.isLt k0_t5_abs.2.1
  unfold tripL_k0_t5 trip_k0_t5
  dsimp only
  simp only [List.forall_mem_cons]
  refine ⟨?_, ?_, fun p hp => absurd hp List.not_mem_nil⟩
  · refine nr_piece _ x1 _ _ 3 k.val hk 1 (k0_off65_eq k 1) _ _ fun r l => ?_
    refine (congrFun (right5 arg1 arg3 arg4 arg9 arg10 X1 X3 X4 X9 X10 k (lhs_inb 3 k.val hk (lhsOff5 k)) (sel_inb k.val (selOff5 k)) (code_inb 3 k.val hk 1 (codeOff5_eq k 1)) (bias_inb k.val hk 1 (k0_off64_eq k 1)) (x_inb 3 k.val hk 1 (k0_off65_eq k 1))) _).trans ((nrTile1_apply ..).trans ?_)
    exact tile_val arg1 arg3 arg4 arg9 arg10 X1 X3 X4 X9 X10 x1 hL hW 3 k.val hk 1 (lhsOff5 k) (selOff5 k) (codeOff5_eq k 1) (k0_off64_eq k 1) (k0_off65_eq k 1) (lhs_inb 3 k.val hk (lhsOff5 k)) (sel_inb k.val (selOff5 k)) (code_inb 3 k.val hk 1 (codeOff5_eq k 1)) (bias_inb k.val hk 1 (k0_off64_eq k 1)) (x_inb 3 k.val hk 1 (k0_off65_eq k 1)) r l
  · refine nr_piece _ x1 _ _ 3 k.val hk 0 (k0_off65_eq k 0) _ _ fun r l => ?_
    refine (congrFun (left5 arg1 arg3 arg4 arg9 arg10 X1 X3 X4 X9 X10 k (lhs_inb 3 k.val hk (lhsOff5 k)) (sel_inb k.val (selOff5 k)) (code_inb 3 k.val hk 0 (codeOff5_eq k 0)) (bias_inb k.val hk 0 (k0_off64_eq k 0)) (x_inb 3 k.val hk 0 (k0_off65_eq k 0))) _).trans ((nrTile0_apply ..).trans ?_)
    exact tile_val arg1 arg3 arg4 arg9 arg10 X1 X3 X4 X9 X10 x1 hL hW 3 k.val hk 0 (lhsOff5 k) (selOff5 k) (codeOff5_eq k 0) (k0_off64_eq k 0) (k0_off65_eq k 0) (lhs_inb 3 k.val hk (lhsOff5 k)) (sel_inb k.val (selOff5 k)) (code_inb 3 k.val hk 0 (codeOff5_eq k 0)) (bias_inb k.val hk 0 (k0_off64_eq k 0)) (x_inb 3 k.val hk 0 (k0_off65_eq k 0)) r l

omit hL hW in
theorem mem5 (v : FVec Ideal S32x1 .f32) (c15 : Ideal .f32) (init) (p) : p ∈ (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t5_loop.trips).2
    ↔ ∃ k, p ∈ tripL_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1 := by
  rw [mem_trips (n := k0_t5_loop.trips) (pb := fun m => (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m).2)
    (L := fun k => tripL_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k.val).1) rfl
    (fun k => congrArg Prod.snd (st_k0_t5_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) p _ le_rfl]
  exact ⟨fun ⟨k, _, h⟩ => ⟨k, h⟩, fun ⟨k, h⟩ => ⟨k, k.isLt, h⟩⟩

theorem pieces5 (v : FVec Ideal S32x1 .f32) (c15 : Ideal .f32) (init) : ∀ p ∈ (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t5_loop.trips).2, ∀ y, p.2 y = NRof arg1 arg3 arg4 X1 X3 X4 x1 (p.1.emb y) := by
  intro p hp
  obtain ⟨k, hk⟩ := (mem5 c i arg1 harg1 arg2 harg2 arg3 harg3 arg4 harg4 arg5 harg5 arg6 harg6 arg7 harg7 arg8 harg8 arg9 harg9 arg10 harg10 arg11 harg11 arg12 harg12 X1 X3 X4 X9 X10 v c15 init p).mp hp
  exact trip5_pieces c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 _ p hk

omit hL hW in
theorem cover5 (v : FVec Ideal S32x1 .f32) (c15 : Ideal .f32) (init) (z : S128x7168.Idx) (hz : (z 0).val / 32 = 3) : ∃ p ∈ (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t5_loop.trips).2, z ∈ p.1.set := by
  have a1 : (z 1).val < 7168 := (z 1).isLt
  have key : ∃ p ∈ tripL_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 ⟨(z 1).val / 256, by rw [trips5]; omega⟩
      (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init ((z 1).val / 256)).1, z ∈ p.1.set := by
    unfold tripL_k0_t5 trip_k0_t5
    dsimp only
    simp only [List.exists_mem_cons_iff]
    rcases (by omega : (z 1).val / 128 % 2 = 0 ∨ (z 1).val / 128 % 2 = 1) with h | h
    · exact .inr (.inl (nr_mem 3 _ 0 (k0_off65_eq _ 0) _ z hz rfl h))
    · exact .inl (nr_mem 3 _ 1 (k0_off65_eq _ 1) _ z hz rfl h)
  obtain ⟨p, hp, h⟩ := key
  exact ⟨p, (mem5 c i arg1 harg1 arg2 harg2 arg3 harg3 arg4 harg4 arg5 harg5 arg6 harg6 arg7 harg7 arg8 harg8 arg9 harg9 arg10 harg10 arg11 harg11 arg12 harg12 X1 X3 X4 X9 X10 v c15 init p).mpr ⟨_, hp⟩, h⟩

theorem step5 (k : Fin k0_t5_loop.trips) (v : FVec Ideal S32x1 .f32) (c15 : Ideal .f32) (acc : FVec Ideal S32x128 .f32) (r : Fin 32) (l : Fin 128) :
    tripR_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 k acc (ix2 r l)
      = acc (ix2 r l) + NRc (arg1.view.read (Elt Ideal) X1) x1 (arg3.view.read (Elt Ideal) X3) (arg4.view.read (Elt Ideal) X4) ⟨32 * (3 : Fin 4).val + r.val, by omega⟩ (256 * k.val + l.val) * NRc (arg1.view.read (Elt Ideal) X1) x1 (arg3.view.read (Elt Ideal) X3) (arg4.view.read (Elt Ideal) X4) ⟨32 * (3 : Fin 4).val + r.val, by omega⟩ (256 * k.val + l.val)
        + NRc (arg1.view.read (Elt Ideal) X1) x1 (arg3.view.read (Elt Ideal) X3) (arg4.view.read (Elt Ideal) X4) ⟨32 * (3 : Fin 4).val + r.val, by omega⟩ (256 * k.val + 128 + l.val) * NRc (arg1.view.read (Elt Ideal) X1) x1 (arg3.view.read (Elt Ideal) X3) (arg4.view.read (Elt Ideal) X4) ⟨32 * (3 : Fin 4).val + r.val, by omega⟩ (256 * k.val + 128 + l.val) := by
  have hk : k.val < 28 := Nat.lt_of_lt_of_le k.isLt k0_t5_abs.2.1
  have t0 := tile_val arg1 arg3 arg4 arg9 arg10 X1 X3 X4 X9 X10 x1 hL hW 3 k.val hk 0 (lhsOff5 k) (selOff5 k) (codeOff5_eq k 0) (k0_off64_eq k 0) (k0_off65_eq k 0) (lhs_inb 3 k.val hk (lhsOff5 k)) (sel_inb k.val (selOff5 k)) (code_inb 3 k.val hk 0 (codeOff5_eq k 0)) (bias_inb k.val hk 0 (k0_off64_eq k 0)) (x_inb 3 k.val hk 0 (k0_off65_eq k 0)) r l
  have t1 := tile_val arg1 arg3 arg4 arg9 arg10 X1 X3 X4 X9 X10 x1 hL hW 3 k.val hk 1 (lhsOff5 k) (selOff5 k) (codeOff5_eq k 1) (k0_off64_eq k 1) (k0_off65_eq k 1) (lhs_inb 3 k.val hk (lhsOff5 k)) (sel_inb k.val (selOff5 k)) (code_inb 3 k.val hk 1 (codeOff5_eq k 1)) (bias_inb k.val hk 1 (k0_off64_eq k 1)) (x_inb 3 k.val hk 1 (k0_off65_eq k 1)) r l
  have h := (congrFun (carry5 c i arg1 harg1 arg2 harg2 arg3 harg3 arg4 harg4 arg5 harg5 arg6 harg6 arg7 harg7 arg8 harg8 arg9 harg9 arg10 harg10 arg11 harg11 arg12 harg12 X1 X3 X4 X9 X10 k (lhs_inb 3 k.val hk (lhsOff5 k)) (sel_inb k.val (selOff5 k)) (code_inb 3 k.val hk 0 (codeOff5_eq k 0)) (code_inb 3 k.val hk 1 (codeOff5_eq k 1)) (bias_inb k.val hk 0 (k0_off64_eq k 0)) (bias_inb k.val hk 1 (k0_off64_eq k 1)) (x_inb 3 k.val hk 0 (k0_off65_eq k 0)) (x_inb 3 k.val hk 1 (k0_off65_eq k 1)) acc v c15) (ix2 r l)).trans (sumsq_apply ..)
  exact sumsq_val arg1 arg3 arg4 X1 X3 X4 x1 3 k.val hk acc _ r l _ _ t0 t1 h

theorem sum5 (v : FVec Ideal S32x1 .f32) (c15 : Ideal .f32) (init : FVec Ideal S32x128 .f32) (h0 : ∀ j, init j = 0) (r : Fin 32) (l : Fin 128) :
    (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k0_t5_loop.trips).1 (ix2 r l)
      = sqLane (arg1.view.read (Elt Ideal) X1) x1 (arg3.view.read (Elt Ideal) X3) (arg4.view.read (Elt Ideal) X4) ⟨32 * (3 : Fin 4).val + r.val, by omega⟩ l := by
  have hs := carried_apply (n := k0_t5_loop.trips) (st := fun m => st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init m)
    (fun k => congrArg Prod.fst (st_k0_t5_succ (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 init k)) (fun v => (v (ix2 r l) : EReal))
    (fun j => NRc (arg1.view.read (Elt Ideal) X1) x1 (arg3.view.read (Elt Ideal) X3) (arg4.view.read (Elt Ideal) X4) ⟨32 * (3 : Fin 4).val + r.val, by omega⟩ (256 * j + l.val) * NRc (arg1.view.read (Elt Ideal) X1) x1 (arg3.view.read (Elt Ideal) X3) (arg4.view.read (Elt Ideal) X4) ⟨32 * (3 : Fin 4).val + r.val, by omega⟩ (256 * j + l.val)) (fun j => NRc (arg1.view.read (Elt Ideal) X1) x1 (arg3.view.read (Elt Ideal) X3) (arg4.view.read (Elt Ideal) X4) ⟨32 * (3 : Fin 4).val + r.val, by omega⟩ (256 * j + 128 + l.val) * NRc (arg1.view.read (Elt Ideal) X1) x1 (arg3.view.read (Elt Ideal) X3) (arg4.view.read (Elt Ideal) X4) ⟨32 * (3 : Fin 4).val + r.val, by omega⟩ (256 * j + 128 + l.val))
    (fun k acc => step5 c i arg1 harg1 arg2 harg2 arg3 harg3 arg4 harg4 arg5 harg5 arg6 harg6 arg7 harg7 arg8 harg8 arg9 harg9 arg10 harg10 arg11 harg11 arg12 harg12 X1 X3 X4 X9 X10 x1 hL hW k v c15 acc r l) _ le_rfl
  refine hs.trans ?_
  show init (ix2 r l) + _ = _
  rw [h0, zero_add, trips5]
  rfl

end Cert.Hand
-- ==== Proof.LoopScale.lean ====
/- The loops that normalise, scale and quantise: what each of their buffers holds at every index. -/
module

public import proofs.«01_k».proof.Proof.Trips
public import proofs.«01_k».proof.Proof.TilePay

@[expose] public section

set_option maxRecDepth 16384

noncomputable section

namespace Cert.Hand

open Idealize.ShloMosaic Idealize.ShloMosaic.TcCoe Idealize.ShloMosaic.Tactic
open Cert.KernelIdeal Cert.KernelIdeal.Gen

theorem trips6 : k0_t6_loop.trips = 56 := by decide +kernel
theorem trips7 : k0_t7_loop.trips = 32 := by decide +kernel
theorem trips8 : k0_t8_loop.trips = 24 := by decide +kernel

section
variable (N : S128x7168.Idx → EReal) (R : Fin 128 → EReal) (g : Vec Ideal S1x7168 .f32)

/-- The normalised row. -/
def Yof (z : S128x7168.Idx) : EReal := N z * R (z 0) * g (ix2 0 (z 1))

/-- A group's scaled largest magnitude. -/
def Aof (G : Fin 224) (r : Fin 128) : EReal := amaxOf fun e : Fin 32 => Yof N R g (ix2 r ⟨32 * G.val + e.val, by omega⟩)

/-- A group's scale, as the result holds it. -/
def YSof (z : S1x224x128.Idx) : EReal := ysOf (Aof N R g (z 1) (z 2))

/-- A group's reciprocal scale, as the scratch holds it: rows past the last group are of no account. -/
def IVof (z : S256x128.Idx) : EReal := if h : (z 0).val < 224 then ivOf (Aof N R g ⟨(z 0).val, h⟩ (z 1)) else 0

theorem IVof_of_lt (G : Fin 256) (r : Fin 128) (h : G.val < 224) : IVof N R g (ix2 G r) = ivOf (Aof N R g ⟨G.val, h⟩ r) := dif_pos h

/-- Row `q` of the half of the reciprocals' scratch that begins at row `m`. -/
def rowFrom (m : ℕ) (q : Fin 128) : Fin 256 := ⟨(m + q.val) % 256, Nat.mod_lt _ (by decide)⟩

/-- A code before its change of format. -/
def YCof (z : S128x7168.Idx) : EReal :=
  clip (Yof N R g z * ivOf (Aof N R g ⟨(z 1).val / 32, by have : (z 1).val < 7168 := (z 1).isLt; omega⟩ (z 0)))

end

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X5 : BufTy.Contents (Elt Ideal) arg5.view.ty) (X6 : BufTy.Contents (Elt Ideal) arg6.view.ty) (X11 : BufTy.Contents (Elt Ideal) arg11.view.ty)
  (v33 : FVec Ideal S32x1 .f32) (c15 : Ideal .f32) (v36 v46 v56 : FVec Ideal S32x128 .f32)
  (N : S128x7168.Idx → EReal) (R : Fin 128 → EReal)

section scale
variable (hN : ∀ z, arg6.view.read (Elt Ideal) X6 z = N z) (hR : ∀ r, k0_pay144 v33 v36 v46 v56 (ix2 r 0) = R r)

/-- The lanes a trip reads. -/
abbrev lanes (k : Fin k0_t6_loop.trips) (iN : ∀ t, k0_off66 k t + (![128, 128] : Fin 2 → ℕ) t ≤ S128x7168.size t) : Vec Ideal S128x128 .bf16 :=
  arg6.view.readAt (Elt Ideal) (Rect.unit (s := S128x7168) (k0_off66 k) ![128, 128] iN).toLoadRect X6
abbrev gains (k : Fin k0_t6_loop.trips) (iG : ∀ t, k0_off67 k t + (![1, 128] : Fin 2 → ℕ) t ≤ S1x7168.size t) : Vec Ideal S1x128 .f32 :=
  arg5.view.readAt (Elt Ideal) (Rect.unit (s := S1x7168) (k0_off67 k) ![1, 128] iG).toLoadRect X5

theorem y6 (k : Fin k0_t6_loop.trips) (iN iG) : trip_k0_t6.sl.v113 arg5 arg6 v33 v36 v46 v56 X5 X6 k = k0_pay119 (k0_pay144 v33 v36 v46 v56) (lanes arg6 X6 k iN) (gains arg5 X5 k iG) := rfl
theorem s6 (k : Fin k0_t6_loop.trips) (iN iG) : trip_k0_t6.sl.v185 arg5 arg6 v33 v36 v46 v56 X5 X6 k
    = k0_pay123 (k0_pay120 (k0_pay144 v33 v36 v46 v56) (lanes arg6 X6 k iN) (gains arg5 X5 k iG)) (k0_pay121 (k0_pay144 v33 v36 v46 v56) (lanes arg6 X6 k iN) (gains arg5 X5 k iG)) := rfl
theorem i6 (k : Fin k0_t6_loop.trips) (iN iG) : trip_k0_t6.sl.v182 arg5 arg6 v33 v36 v46 v56 X5 X6 k
    = k0_pay122 (k0_pay120 (k0_pay144 v33 v36 v46 v56) (lanes arg6 X6 k iN) (gains arg5 X5 k iG)) (k0_pay121 (k0_pay144 v33 v36 v46 v56) (lanes arg6 X6 k iN) (gains arg5 X5 k iG)) := rfl

theorem lanes_inb (k : Fin k0_t6_loop.trips) : ∀ t, k0_off66 k t + (![128, 128] : Fin 2 → ℕ) t ≤ S128x7168.size t := by
  have hk : k.val < 56 := Nat.lt_of_lt_of_le k.isLt k0_t6_abs.2.1
  rw [k0_off66_eq]
  intro t
  fin_cases t
  · show 0 + 128 ≤ 128
    omega
  · show 128 * k.val + 128 ≤ 7168
    omega
theorem gains_inb (k : Fin k0_t6_loop.trips) : ∀ t, k0_off67 k t + (![1, 128] : Fin 2 → ℕ) t ≤ S1x7168.size t := by
  have hk : k.val < 56 := Nat.lt_of_lt_of_le k.isLt k0_t6_abs.2.1
  rw [k0_off67_eq]
  intro t
  fin_cases t
  · show 0 + 1 ≤ 1
    omega
  · show 128 * k.val + 128 ≤ 7168
    omega
theorem scales_inb (k : Fin k0_t6_loop.trips) : ∀ t, k0_off68 k t + (![1, 4, 128] : Fin 3 → ℕ) t ≤ S1x224x128.size t := by
  have hk : k.val < 56 := Nat.lt_of_lt_of_le k.isLt k0_t6_abs.2.1
  rw [k0_off68_eq]
  intro t
  fin_cases t
  · show 0 + 1 ≤ 1
    omega
  · show 4 * k.val + 4 ≤ 224
    omega
  · show 0 + 128 ≤ 128
    omega
theorem invs_inb (k : Fin k0_t6_loop.trips) : ∀ t, k0_off69 k t + (![4, 128] : Fin 2 → ℕ) t ≤ S256x128.size t := by
  have hk : k.val < 56 := Nat.lt_of_lt_of_le k.isLt k0_t6_abs.2.1
  rw [k0_off69_eq]
  intro t
  fin_cases t
  · show 4 * k.val + 4 ≤ 256
    omega
  · show 0 + 128 ≤ 128
    omega

include hN hR

theorem y_lane (k : Fin k0_t6_loop.trips) (iN iG) (r l : Fin 128) (hk : k.val < 56) :
    (lanes arg6 X6 k iN (ix2 r l) : EReal) * k0_pay144 v33 v36 v46 v56 (ix2 r 0) * gains arg5 X5 k iG (ix2 0 l)
      = Yof N R (arg5.view.read (Elt Ideal) X5) (ix2 r ⟨128 * k.val + l.val, by omega⟩) := by
  unfold Yof
  rw [hR, ← hN]
  congr 1
  · congr 1
    refine readAt_at _ _ _ (k0_off66_eq k) _ _ fun t => ?_
    fin_cases t
    · show r.val = 0 + r.val
      omega
    · rfl
  · refine readAt_at _ _ _ (k0_off67_eq k) _ _ fun t => ?_
    fin_cases t <;> rfl

theorem a_lane (k : Fin k0_t6_loop.trips) (iN iG) (q : Fin 4) (r : Fin 128) (hk : k.val < 56) :
    k0_pay120 (k0_pay144 v33 v36 v46 v56) (lanes arg6 X6 k iN) (gains arg5 X5 k iG) (ix2 q r)
      = Aof N R (arg5.view.read (Elt Ideal) X5) ⟨4 * k.val + q.val, by omega⟩ r := by
  rw [amax_apply]
  unfold Aof
  congr 1
  funext e
  rw [y_apply]
  refine (y_lane arg5 arg6 X5 X6 v33 v36 v46 v56 N R hN hR k iN iG r _ hk).trans ?_
  congr 3
  show 128 * k.val + (32 * q.val + e.val) = 32 * (4 * k.val + q.val) + e.val
  omega

theorem val6_s (k : Fin k0_t6_loop.trips) (q : Fin 4) (r : Fin 128) (hk : k.val < 56) :
    k0_pay145 (trip_k0_t6.sl.v185 arg5 arg6 v33 v36 v46 v56 X5 X6 k) (ix3 0 q r)
      = YSof N R (arg5.view.read (Elt Ideal) X5) (ix3 0 ⟨4 * k.val + q.val, by omega⟩ r) := by
  have h := a_lane arg5 arg6 X5 X6 v33 v36 v46 v56 N R hN hR k (lanes_inb k) (gains_inb k) q r hk
  rw [s6 arg5 arg6 X5 X6 v33 v36 v46 v56 k (lanes_inb k) (gains_inb k), ys_apply, h]
  rfl

theorem val6_i (k : Fin k0_t6_loop.trips) (q : Fin 4) (r : Fin 128) (hk : k.val < 56) :
    k0_pay146 (F := Ideal) (trip_k0_t6.sl.v182 arg5 arg6 v33 v36 v46 v56 X5 X6 k) (ix2 q r)
      = IVof N R (arg5.view.read (Elt Ideal) X5) (ix2 ⟨4 * k.val + q.val, by omega⟩ r) := by
  have h := a_lane arg5 arg6 X5 X6 v33 v36 v46 v56 N R hN hR k (lanes_inb k) (gains_inb k) q r hk
  rw [i6 arg5 arg6 X5 X6 v33 v36 v46 v56 k (lanes_inb k) (gains_inb k), iv_apply, h]
  exact (IVof_of_lt N R (arg5.view.read (Elt Ideal) X5) ⟨4 * k.val + q.val, by omega⟩ r (show 4 * k.val + q.val < 224 by omega)).symm

theorem trip6_y (k : Fin k0_t6_loop.trips) : ∀ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k).2.1, ∀ x, p.2 x = Yof N R (arg5.view.read (Elt Ideal) X5) (p.1.emb x) := by
  have hk : k.val < 56 := Nat.lt_of_lt_of_le k.isLt k0_t6_abs.2.1
  unfold tripL_k0_t6 trip_k0_t6
  dsimp only
  simp only [List.forall_mem_cons]
  refine ⟨?_, fun p hp => absurd hp List.not_mem_nil⟩
  intro (x : S128x128.Idx)
  obtain ⟨r, l, rfl⟩ : ∃ r l, x = ix2 r l := ⟨_, _, eq_ix2 x⟩
  refine (congrFun (y6 arg5 arg6 X5 X6 v33 v36 v46 v56 k (lanes_inb k) (gains_inb k)) _).trans ((y_apply' ..).trans ?_)
  refine (y_lane arg5 arg6 X5 X6 v33 v36 v46 v56 N R hN hR k _ _ r l hk).trans ?_
  have he := emb_at' (s := S128x7168) (lanes_inb k) (k0_off66_eq k) (ix2 r l) (ix2 r ⟨128 * k.val + l.val, by omega⟩) (by
    intro t
    fin_cases t
    · show r.val = 0 + r.val
      omega
    · rfl)
  exact congrArg _ he.symm

theorem trip6_s (k : Fin k0_t6_loop.trips) : ∀ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k).1, ∀ x, p.2 x = YSof N R (arg5.view.read (Elt Ideal) X5) (p.1.emb x) := by
  have hk : k.val < 56 := Nat.lt_of_lt_of_le k.isLt k0_t6_abs.2.1
  unfold tripL_k0_t6 trip_k0_t6
  dsimp only
  simp only [List.forall_mem_cons]
  refine ⟨?_, fun p hp => absurd hp List.not_mem_nil⟩
  intro (x : S1x4x128.Idx)
  obtain ⟨x0, q, r, rfl⟩ : ∃ x0 q r, x = ix3 x0 q r := ⟨_, _, _, eq_ix3 x⟩
  obtain rfl : x0 = 0 := Subsingleton.elim _ _
  have he := emb_at' (s := S1x224x128) (scales_inb k) (k0_off68_eq k) (ix3 0 q r) (ix3 0 ⟨4 * k.val + q.val, by omega⟩ r) (by
    intro t
    fin_cases t
    · rfl
    · rfl
    · show r.val = 0 + r.val
      omega)
  exact (val6_s arg5 arg6 X5 X6 v33 v36 v46 v56 N R hN hR k q r hk).trans
    (congrArg (YSof N R (arg5.view.read (Elt Ideal) X5)) he.symm)

theorem trip6_i (k : Fin k0_t6_loop.trips) : ∀ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k).2.2, ∀ x, p.2 x = IVof N R (arg5.view.read (Elt Ideal) X5) (p.1.emb x) := by
  have hk : k.val < 56 := Nat.lt_of_lt_of_le k.isLt k0_t6_abs.2.1
  unfold tripL_k0_t6 trip_k0_t6
  dsimp only
  simp only [List.forall_mem_cons]
  refine ⟨?_, fun p hp => absurd hp List.not_mem_nil⟩
  intro (x : S4x128.Idx)
  obtain ⟨q, r, rfl⟩ : ∃ q r, x = ix2 q r := ⟨_, _, eq_ix2 x⟩
  have he := emb_at' (s := S256x128) (invs_inb k) (k0_off69_eq k) (ix2 q r) (ix2 ⟨4 * k.val + q.val, by omega⟩ r) (by
    intro t
    fin_cases t
    · rfl
    · show r.val = 0 + r.val
      omega)
  exact (val6_i arg5 arg6 X5 X6 v33 v36 v46 v56 N R hN hR k q r hk).trans
    (congrArg (IVof N R (arg5.view.read (Elt Ideal) X5)) he.symm)

omit hN hR in
theorem mem6 {β : Type} (pr : _ → List β) (hnil : pr ([], [], []) = []) (happ : ∀ a b : _ , pr (a.1 ++ b.1, a.2.1 ++ b.2.1, a.2.2 ++ b.2.2) = pr a ++ pr b) (p) :
    p ∈ pr (pb_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k0_t6_loop.trips) ↔ ∃ k, p ∈ pr (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k) := by
  rw [mem_trips (n := k0_t6_loop.trips) (pb := fun m => pr (pb_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 m))
    (L := fun k => pr (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k)) hnil
    (fun k => (congrArg pr (pb_k0_t6_succ (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k)).trans (happ _ _)) p _ le_rfl]
  exact ⟨fun ⟨k, _, h⟩ => ⟨k, h⟩, fun ⟨k, h⟩ => ⟨k, k.isLt, h⟩⟩

/-- After the loop, the scales' buffer. -/
theorem read6_s (f : BufTy.Contents (Elt Ideal) arg8.view.ty) (z : S1x224x128.Idx) :
    arg8.view.read (Elt Ideal) (arg8.view.writes (Elt Ideal) f (pb_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k0_t6_loop.trips).1) z
      = YSof N R (arg5.view.read (Elt Ideal) X5) z := by
  refine View.read_writes_apply_of_pieces arg8.view f (YSof N R (arg5.view.read (Elt Ideal) X5)) _ ?_ z ?_
  · intro p hp
    obtain ⟨k, hp⟩ := (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.1) rfl (fun _ _ => rfl) p).mp hp
    exact trip6_s c i arg1 harg1 arg2 harg2 arg3 harg3 arg4 harg4 arg5 harg5 arg6 harg6 arg7 harg7 arg8 harg8 arg9 harg9 arg10 harg10 arg11 harg11 arg12 harg12 X5 X6 v33 c15 v36 v46 v56 N R hN hR k p hp
  · have a1 : (z 1).val < 224 := (z 1).isLt
    have key : ∃ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 ⟨(z 1).val / 4, by rw [trips6]; omega⟩).1, z ∈ p.1.set := by
      unfold tripL_k0_t6 trip_k0_t6
      dsimp only
      refine ⟨_, List.mem_singleton.mpr rfl, ?_⟩
      rw [Rect.mem_set_unit, k0_off68_eq]
      intro t
      fin_cases t
      · exact ⟨Nat.zero_le _, (z 0).isLt⟩
      · show 4 * ((z 1).val / 4) ≤ (z 1).val ∧ (z 1).val < 4 * ((z 1).val / 4) + 4
        omega
      · exact ⟨Nat.zero_le _, by show (z 2).val < 0 + 128; rw [Nat.zero_add]; exact (z 2).isLt⟩
    obtain ⟨p, hp, h⟩ := key
    exact ⟨p, (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.1) rfl (fun _ _ => rfl) p).mpr ⟨_, hp⟩, h⟩

/-- After the loop, the scratch of normalised rows. -/
theorem read6_y (f : BufTy.Contents (Elt Ideal) arg11.view.ty) (z : S128x7168.Idx) :
    arg11.view.read (Elt Ideal) (arg11.view.writes (Elt Ideal) f (pb_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k0_t6_loop.trips).2.1) z
      = Yof N R (arg5.view.read (Elt Ideal) X5) z := by
  refine View.read_writes_apply_of_pieces arg11.view f (Yof N R (arg5.view.read (Elt Ideal) X5)) _ ?_ z ?_
  · intro p hp
    obtain ⟨k, hp⟩ := (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.2.1) rfl (fun _ _ => rfl) p).mp hp
    exact trip6_y c i arg1 harg1 arg2 harg2 arg3 harg3 arg4 harg4 arg5 harg5 arg6 harg6 arg7 harg7 arg8 harg8 arg9 harg9 arg10 harg10 arg11 harg11 arg12 harg12 X5 X6 v33 c15 v36 v46 v56 N R hN hR k p hp
  · have a1 : (z 1).val < 7168 := (z 1).isLt
    have key : ∃ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 ⟨(z 1).val / 128, by rw [trips6]; omega⟩).2.1, z ∈ p.1.set := by
      unfold tripL_k0_t6 trip_k0_t6
      dsimp only
      refine ⟨_, List.mem_singleton.mpr rfl, ?_⟩
      rw [Rect.mem_set_unit, k0_off66_eq]
      intro t
      fin_cases t
      · exact ⟨Nat.zero_le _, by show (z 0).val < 0 + 128; rw [Nat.zero_add]; exact (z 0).isLt⟩
      · show 128 * ((z 1).val / 128) ≤ (z 1).val ∧ (z 1).val < 128 * ((z 1).val / 128) + 128
        omega
    obtain ⟨p, hp, h⟩ := key
    exact ⟨p, (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.2.1) rfl (fun _ _ => rfl) p).mpr ⟨_, hp⟩, h⟩

/-- After the loop, the rows of the reciprocals' scratch that belong to a group. -/
theorem read6_i (f : BufTy.Contents (Elt Ideal) arg12.view.ty) (z : S256x128.Idx) (hz : (z 0).val < 224) :
    arg12.view.read (Elt Ideal) (arg12.view.writes (Elt Ideal) f (pb_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 k0_t6_loop.trips).2.2) z
      = IVof N R (arg5.view.read (Elt Ideal) X5) z := by
  refine View.read_writes_apply_of_pieces arg12.view f (IVof N R (arg5.view.read (Elt Ideal) X5)) _ ?_ z ?_
  · intro p hp
    obtain ⟨k, hp⟩ := (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.2.2) rfl (fun _ _ => rfl) p).mp hp
    exact trip6_i c i arg1 harg1 arg2 harg2 arg3 harg3 arg4 harg4 arg5 harg5 arg6 harg6 arg7 harg7 arg8 harg8 arg9 harg9 arg10 harg10 arg11 harg11 arg12 harg12 X5 X6 v33 c15 v36 v46 v56 N R hN hR k p hp
  · have key : ∃ p ∈ (tripL_k0_t6 (F := Ideal) Variants.none c none i arg1 harg1 arg2 harg2 arg3 harg3 arg4 harg4 arg5 harg5 arg6 harg6 arg7 harg7 arg8 harg8 arg9 harg9 arg10 harg10 arg11 harg11 arg12 harg12 v33 c15 v36 v46 v56 X5 X6 ⟨(z 0).val / 4, by rw [trips6]; omega⟩).2.2, z ∈ p.1.set := by
      unfold tripL_k0_t6 trip_k0_t6
      dsimp only
      refine ⟨_, List.mem_singleton.mpr rfl, ?_⟩
      rw [Rect.mem_set_unit, k0_off69_eq]
      intro t
      fin_cases t
      · show 4 * ((z 0).val / 4) ≤ (z 0).val ∧ (z 0).val < 4 * ((z 0).val / 4) + 4
        omega
      · exact ⟨Nat.zero_le _, by show (z 1).val < 0 + 128; rw [Nat.zero_add]; exact (z 1).isLt⟩
    obtain ⟨p, hp, h⟩ := key
    exact ⟨p, (mem6 c i arg1 harg1 arg2 harg2 arg3 harg3 arg4 harg4 arg5 harg5 arg6 harg6 arg7 harg7 arg8 harg8 arg9 harg9 arg10 harg10 arg11 harg11 arg12 harg12 X5 X6 v33 c15 v36 v46 v56 (fun q => q.2.2) rfl (fun _ _ => rfl) p).mpr ⟨_, hp⟩, h⟩

end scale

end Cert.Hand
-- ==== Proof.LoopQuant.lean ====
/- The two loops that quantise: the codes they store. -/
module

public import proofs.«01_k».proof.Proof.LoopScale

@[expose] public section

set_option maxRecDepth 16384

noncomputable section

namespace Cert.Hand

open Idealize.ShloMosaic Idealize.ShloMosaic.TcCoe Idealize.ShloMosaic.Tactic
open Cert.KernelIdeal Cert.KernelIdeal.Gen

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X11 : BufTy.Contents (Elt Ideal) arg11.view.ty) (w : FVec Ideal S128x128 .f32) (N : S128x7168.Idx → EReal) (R : Fin 128 → EReal) (g : Vec Ideal S1x7168 .f32)

section
variable (hY : ∀ z, arg11.view.read (Elt Ideal) X11 z = Yof N R g z)
  (hw : ∀ q r : Fin 128, q.val < 128 → w (ix2 q r) = IVof N R g (ix2 (rowFrom 0 q) r))

theorem inb7 (k : Fin k0_t7_loop.trips) : ∀ t, k0_off70 k t + (![128, 128] : Fin 2 → ℕ) t ≤ S128x7168.size t := by
  have hk : k.val < 32 := Nat.lt_of_lt_of_le k.isLt k0_t7_abs.2.1
  rw [k0_off70_eq]
  intro t
  fin_cases t
  · show 0 + 128 ≤ 128
    omega
  · show 128 * k.val + 0 + 128 ≤ 7168
    omega

include hY hw in
theorem val7 (k : Fin k0_t7_loop.trips) (iY) (r l : Fin 128) (hk : k.val < 32) :
    k0_pay2 (F := Ideal) w k (arg11.view.readAt (Elt Ideal) (Rect.unit (s := S128x7168) (k0_off70 k) ![128, 128] iY).toLoadRect X11) (ix2 r l)
      = YCof N R g (ix2 r ⟨128 * k.val + 0 + l.val, by omega⟩) := by
  have hx : arg11.view.readAt (Elt Ideal) (Rect.unit (s := S128x7168) (k0_off70 k) ![128, 128] iY).toLoadRect X11 (ix2 r l)
      = Yof N R g (ix2 r ⟨128 * k.val + 0 + l.val, by omega⟩) := by
    rw [← hY]
    refine readAt_at _ _ _ (k0_off70_eq k) _ _ fun t => ?_
    fin_cases t
    · show r.val = 0 + r.val
      omega
    · rfl
  rw [code_apply, hx, hw _ _ (show (4 * k.val + l.val / 32) % 128 < 128 by omega)]
  unfold YCof
  rw [IVof_of_lt N R g _ _ (show (0 + (4 * k.val + l.val / 32) % 128) % 256 < 224 by omega)]
  have he : (⟨(0 + (4 * k.val + l.val / 32) % 128) % 256, by omega⟩ : Fin 224) = ⟨(128 * k.val + 0 + l.val) / 32, by omega⟩ := by
    apply Fin.ext
    show (0 + (4 * k.val + l.val / 32) % 128) % 256 = (128 * k.val + 0 + l.val) / 32
    omega
  exact congrArg (fun e => clip (Yof N R g _ * ivOf (Aof N R g e r))) he

include hY hw in
theorem pieces7 : ∀ p ∈ pb_k0_t7 (F := Ideal) Variants.none c none i arg1 harg1 arg2 harg2 arg3 harg3 arg4 harg4 arg5 harg5 arg6 harg6 arg7 harg7 arg8 harg8 arg9 harg9 arg10 harg10 arg11 harg11 arg12 harg12 w X11 k0_t7_loop.trips, ∀ x, p.2 x = YCof N R g (p.1.emb x) := by
  intro p hp
  obtain ⟨k, _, hp⟩ := (mem_trips (n := k0_t7_loop.trips) (pb := fun m => pb_k0_t7 (F := Ideal) Variants.none c none i arg1 harg1 arg2 harg2 arg3 harg3 arg4 harg4 arg5 harg5 arg6 harg6 arg7 harg7 arg8 harg8 arg9 harg9 arg10 harg10 arg11 harg11 arg12 harg12 w X11 m)
    (L := fun k => tripL_k0_t7 (F := Ideal) Variants.none c none i arg1 harg1 arg2 harg2 arg3 harg3 arg4 harg4 arg5 harg5 arg6 harg6 arg7 harg7 arg8 harg8 arg9 harg9 arg10 harg10 arg11 harg11 arg12 harg12 w X11 k) rfl (fun k => pb_k0_t7_succ (F := Ideal) Variants.none c none i arg1 harg1 arg2 harg2 arg3 harg3 arg4 harg4 arg5 harg5 arg6 harg6 arg7 harg7 arg8 harg8 arg9 harg9 arg10 harg10 arg11 harg11 arg12 harg12 w X11 k) p _ le_rfl).mp hp
  have hk : k.val < 32 := Nat.lt_of_lt_of_le k.isLt k0_t7_abs.2.1
  revert p
  unfold tripL_k0_t7 trip_k0_t7
  dsimp only
  intro p _ hp
  obtain rfl := List.mem_singleton.mp hp
  intro (x : S128x128.Idx)
  obtain ⟨r, l, rfl⟩ : ∃ r l, x = ix2 r l := ⟨_, _, eq_ix2 x⟩
  have he := emb_at' (s := S128x7168) (inb7 k) (k0_off70_eq k) (ix2 r l) (ix2 r ⟨128 * k.val + 0 + l.val, by omega⟩) (by
    intro t
    fin_cases t
    · show r.val = 0 + r.val
      omega
    · rfl)
  exact (val7 arg11 X11 w N R g hY hw k _ r l hk).trans (congrArg (YCof N R g) he.symm)

theorem cover7 (z : S128x7168.Idx) (h0 : 0 ≤ (z 1).val) (h1 : (z 1).val < 0 + 128 * 32) :
    ∃ p ∈ pb_k0_t7 (F := Ideal) Variants.none c none i arg1 harg1 arg2 harg2 arg3 harg3 arg4 harg4 arg5 harg5 arg6 harg6 arg7 harg7 arg8 harg8 arg9 harg9 arg10 harg10 arg11 harg11 arg12 harg12 w X11 k0_t7_loop.trips, z ∈ p.1.set := by
  have key : ∃ p ∈ tripL_k0_t7 (F := Ideal) Variants.none c none i arg1 harg1 arg2 harg2 arg3 harg3 arg4 harg4 arg5 harg5 arg6 harg6 arg7 harg7 arg8 harg8 arg9 harg9 arg10 harg10 arg11 harg11 arg12 harg12 w X11 ⟨((z 1).val - 0) / 128, by rw [trips7]; omega⟩, z ∈ p.1.set := by
    unfold tripL_k0_t7 trip_k0_t7
    dsimp only
    refine ⟨_, List.mem_singleton.mpr rfl, ?_⟩
    rw [Rect.mem_set_unit, k0_off70_eq]
    intro t
    fin_cases t
    · exact ⟨Nat.zero_le _, by show (z 0).val < 0 + 128; rw [Nat.zero_add]; exact (z 0).isLt⟩
    · show 128 * (((z 1).val - 0) / 128) + 0 ≤ (z 1).val ∧ (z 1).val < 128 * (((z 1).val - 0) / 128) + 0 + 128
      omega
  obtain ⟨p, hp, h⟩ := key
  exact ⟨p, (mem_trips (n := k0_t7_loop.trips) (pb := fun m => pb_k0_t7 (F := Ideal) Variants.none c none i arg1 harg1 arg2 harg2 arg3 harg3 arg4 harg4 arg5 harg5 arg6 harg6 arg7 harg7 arg8 harg8 arg9 harg9 arg10 harg10 arg11 harg11 arg12 harg12 w X11 m)
    (L := fun k => tripL_k0_t7 (F := Ideal) Variants.none c none i arg1 harg1 arg2 harg2 arg3 harg3 arg4 harg4 arg5 harg5 arg6 harg6 arg7 harg7 arg8 harg8 arg9 harg9 arg10 harg10 arg11 harg11 arg12 harg12 w X11 k) rfl (fun k => pb_k0_t7_succ (F := Ideal) Variants.none c none i arg1 harg1 arg2 harg2 arg3 harg3 arg4 harg4 arg5 harg5 arg6 harg6 arg7 harg7 arg8 harg8 arg9 harg9 arg10 harg10 arg11 harg11 arg12 harg12 w X11 k) p _ le_rfl).mpr ⟨_, Fin.isLt _, hp⟩, h⟩

end

section
variable (hY : ∀ z, arg11.view.read (Elt Ideal) X11 z = Yof N R g z)
  (hw : ∀ q r : Fin 128, q.val < 96 → w (ix2 q r) = IVof N R g (ix2 (rowFrom 128 q) r))

theorem inb8 (k : Fin k0_t8_loop.trips) : ∀ t, k0_off71 k t + (![128, 128] : Fin 2 → ℕ) t ≤ S128x7168.size t := by
  have hk : k.val < 24 := Nat.lt_of_lt_of_le k.isLt k0_t8_abs.2.1
  rw [k0_off71_eq]
  intro t
  fin_cases t
  · show 0 + 128 ≤ 128
    omega
  · show 128 * k.val + 4096 + 128 ≤ 7168
    omega

include hY hw in
theorem val8 (k : Fin k0_t8_loop.trips) (iY) (r l : Fin 128) (hk : k.val < 24) :
    k0_pay3 (F := Ideal) w k (arg11.view.readAt (Elt Ideal) (Rect.unit (s := S128x7168) (k0_off71 k) ![128, 128] iY).toLoadRect X11) (ix2 r l)
      = YCof N R g (ix2 r ⟨128 * k.val + 4096 + l.val, by omega⟩) := by
  have hx : arg11.view.readAt (Elt Ideal) (Rect.unit (s := S128x7168) (k0_off71 k) ![128, 128] iY).toLoadRect X11 (ix2 r l)
      = Yof N R g (ix2 r ⟨128 * k.val + 4096 + l.val, by omega⟩) := by
    rw [← hY]
    refine readAt_at _ _ _ (k0_off71_eq k) _ _ fun t => ?_
    fin_cases t
    · show r.val = 0 + r.val
      omega
    · rfl
  rw [code_apply', hx, hw _ _ (show (4 * k.val + l.val / 32) % 128 < 96 by omega)]
  unfold YCof
  rw [IVof_of_lt N R g _ _ (show (128 + (4 * k.val + l.val / 32) % 128) % 256 < 224 by omega)]
  have he : (⟨(128 + (4 * k.val + l.val / 32) % 128) % 256, by omega⟩ : Fin 224) = ⟨(128 * k.val + 4096 + l.val) / 32, by omega⟩ := by
    apply Fin.ext
    show (128 + (4 * k.val + l.val / 32) % 128) % 256 = (128 * k.val + 4096 + l.val) / 32
    omega
  exact congrArg (fun e => clip (Yof N R g _ * ivOf (Aof N R g e r))) he

include hY hw in
theorem pieces8 : ∀ p ∈ pb_k0_t8 (F := Ideal) Variants.none c none i arg1 harg1 arg2 harg2 arg3 harg3 arg4 harg4 arg5 harg5 arg6 harg6 arg7 harg7 arg8 harg8 arg9 harg9 arg10 harg10 arg11 harg11 arg12 harg12 w X11 k0_t8_loop.trips, ∀ x, p.2 x = YCof N R g (p.1.emb x) := by
  intro p hp
  obtain ⟨k, _, hp⟩ := (mem_trips (n := k0_t8_loop.trips) (pb := fun m => pb_k0_t8 (F := Ideal) Variants.none c none i arg1 harg1 arg2 harg2 arg3 harg3 arg4 harg4 arg5 harg5 arg6 harg6 arg7 harg7 arg8 harg8 arg9 harg9 arg10 harg10 arg11 harg11 arg12 harg12 w X11 m)
    (L := fun k => tripL_k0_t8 (F := Ideal) Variants.none c none i arg1 harg1 arg2 harg2 arg3 harg3 arg4 harg4 arg5 harg5 arg6 harg6 arg7 harg7 arg8 harg8 arg9 harg9 arg10 harg10 arg11 harg11 arg12 harg12 w X11 k) rfl (fun k => pb_k0_t8_succ (F := Ideal) Variants.none c none i arg1 harg1 arg2 harg2 arg3 harg3 arg4 harg4 arg5 harg5 arg6 harg6 arg7 harg7 arg8 harg8 arg9 harg9 arg10 harg10 arg11 harg11 arg12 harg12 w X11 k) p _ le_rfl).mp hp
  have hk : k.val < 24 := Nat.lt_of_lt_of_le k.isLt k0_t8_abs.2.1
  revert p
  unfold tripL_k0_t8 trip_k0_t8
  dsimp only
  intro p _ hp
  obtain rfl := List.mem_singleton.mp hp
  intro (x : S128x128.Idx)
  obtain ⟨r, l, rfl⟩ : ∃ r l, x = ix2 r l := ⟨_, _, eq_ix2 x⟩
  have he := emb_at' (s := S128x7168) (inb8 k) (k0_off71_eq k) (ix2 r l) (ix2 r ⟨128 * k.val + 4096 + l.val, by omega⟩) (by
    intro t
    fin_cases t
    · show r.val = 0 + r.val
      omega
    · rfl)
  exact (val8 arg11 X11 w N R g hY hw k _ r l hk).trans (congrArg (YCof N R g) he.symm)

theorem cover8 (z : S128x7168.Idx) (h0 : 4096 ≤ (z 1).val) (h1 : (z 1).val < 4096 + 128 * 24) :
    ∃ p ∈ pb_k0_t8 (F := Ideal) Variants.none c none i arg1 harg1 arg2 harg2 arg3 harg3 arg4 harg4 arg5 harg5 arg6 harg6 arg7 harg7 arg8 harg8 arg9 harg9 arg10 harg10 arg11 harg11 arg12 harg12 w X11 k0_t8_loop.trips, z ∈ p.1.set := by
  have key : ∃ p ∈ tripL_k0_t8 (F := Ideal) Variants.none c none i arg1 harg1 arg2 harg2 arg3 harg3 arg4 harg4 arg5 harg5 arg6 harg6 arg7 harg7 arg8 harg8 arg9 harg9 arg10 harg10 arg11 harg11 arg12 harg12 w X11 ⟨((z 1).val - 4096) / 128, by rw [trips8]; omega⟩, z ∈ p.1.set := by
    unfold tripL_k0_t8 trip_k0_t8
    dsimp only
    refine ⟨_, List.mem_singleton.mpr rfl, ?_⟩
    rw [Rect.mem_set_unit, k0_off71_eq]
    intro t
    fin_cases t
    · exact ⟨Nat.zero_le _, by show (z 0).val < 0 + 128; rw [Nat.zero_add]; exact (z 0).isLt⟩
    · show 128 * (((z 1).val - 4096) / 128) + 4096 ≤ (z 1).val ∧ (z 1).val < 128 * (((z 1).val - 4096) / 128) + 4096 + 128
      omega
  obtain ⟨p, hp, h⟩ := key
  exact ⟨p, (mem_trips (n := k0_t8_loop.trips) (pb := fun m => pb_k0_t8 (F := Ideal) Variants.none c none i arg1 harg1 arg2 harg2 arg3 harg3 arg4 harg4 arg5 harg5 arg6 harg6 arg7 harg7 arg8 harg8 arg9 harg9 arg10 harg10 arg11 harg11 arg12 harg12 w X11 m)
    (L := fun k => tripL_k0_t8 (F := Ideal) Variants.none c none i arg1 harg1 arg2 harg2 arg3 harg3 arg4 harg4 arg5 harg5 arg6 harg6 arg7 harg7 arg8 harg8 arg9 harg9 arg10 harg10 arg11 harg11 arg12 harg12 w X11 k) rfl (fun k => pb_k0_t8_succ (F := Ideal) Variants.none c none i arg1 harg1 arg2 harg2 arg3 harg3 arg4 harg4 arg5 harg5 arg6 harg6 arg7 harg7 arg8 harg8 arg9 harg9 arg10 harg10 arg11 harg11 arg12 harg12 w X11 k) p _ le_rfl).mpr ⟨_, Fin.isLt _, hp⟩, h⟩

end

end Cert.Hand
-- ==== Proof.BodyVal.lean ====
/- The body as a whole, as statements about reads: the new residual, the rows' factors, the scales and the codes. -/
module

public import proofs.«01_k».proof.Proof.SumVal
public import proofs.«01_k».proof.Proof.LoopQuant

@[expose] public section

set_option maxRecDepth 16384

noncomputable section

namespace Cert.Hand

open Idealize.ShloMosaic Idealize.ShloMosaic.TcCoe Idealize.ShloMosaic.Tactic
open Cert.KernelIdeal Cert.KernelIdeal.Gen

/-- The reciprocal root mean square of a row. -/
def RSof (P : Vec Ideal S8x128x7168 .fp8e4m3) (x1 : Vec Ideal S8x1x224x128 .f32) (b : Vec Ideal S1x7168 .f32) (x : Vec Ideal S128x7168 .bf16) (r : Fin 128) : EReal :=
  Ideal.rsqrt ((∑ l : Fin 128, sqLane P x1 b x r l) * ((1 / 7168 : ℝ) : EReal) + Ideal.ofBits .f32 0x358637BD#32)

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
variable (X1 : BufTy.Contents (Elt Ideal) arg1.view.ty) (X3 : BufTy.Contents (Elt Ideal) arg3.view.ty) (X4 : BufTy.Contents (Elt Ideal) arg4.view.ty)
  (X9 : BufTy.Contents (Elt Ideal) arg9.view.ty) (X10 : BufTy.Contents (Elt Ideal) arg10.view.ty) (X11 : BufTy.Contents (Elt Ideal) arg11.view.ty)
variable (x1 : Vec Ideal S8x1x224x128 .f32)
    (hL : ∀ z, arg10.view.read (Elt Ideal) X10 z = lhsAt (fun s => oTile (shard x1 s)) z)
    (hW : ∀ (m : Fin 16) (k l : Fin 256), arg9.view.read (Elt Ideal) X9 (ix3 m k l) = wSel m.val k l)
  (v : FVec Ideal S32x1 .f32) (c15 : Ideal .f32) (i2 i3 i4 i5 : FVec Ideal S32x128 .f32)

include hL hW

/-- After the four loops that sum the shards, the new residual's buffer. -/
theorem body_nr (f : BufTy.Contents (Elt Ideal) arg6.view.ty) (z : S128x7168.Idx) :
    arg6.view.read (Elt Ideal) (arg6.view.writes (Elt Ideal) f
      ((st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).2 ++ ((st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).2
        ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).2 ++ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).2)))) z
      = NR (arg1.view.read (Elt Ideal) X1) x1 (arg3.view.read (Elt Ideal) X3) (arg4.view.read (Elt Ideal) X4) z := by
  refine View.read_writes_apply_of_pieces arg6.view f (NRof arg1 arg3 arg4 X1 X3 X4 x1) _ ?_ z ?_
  · intro p hp
    rcases List.mem_append.mp hp with hp | hp
    · exact pieces5 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i5 p hp
    rcases List.mem_append.mp hp with hp | hp
    · exact pieces4 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i4 p hp
    rcases List.mem_append.mp hp with hp | hp
    · exact pieces3 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i3 p hp
    · exact pieces2 c i arg1 harg1 arg2 harg2 arg3 harg3 arg4 harg4 arg5 harg5 arg6 harg6 arg7 harg7 arg8 harg8 arg9 harg9 arg10 harg10 arg11 harg11 arg12 harg12 X1 X3 X4 X9 X10 x1 hL hW i2 p hp
  · have a0 : (z 0).val < 128 := (z 0).isLt
    rcases (by omega : (z 0).val / 32 = 0 ∨ (z 0).val / 32 = 1 ∨ (z 0).val / 32 = 2 ∨ (z 0).val / 32 = 3) with h | h | h | h
    · obtain ⟨p, hp, hz⟩ := cover2 c i arg1 harg1 arg2 harg2 arg3 harg3 arg4 harg4 arg5 harg5 arg6 harg6 arg7 harg7 arg8 harg8 arg9 harg9 arg10 harg10 arg11 harg11 arg12 harg12 X1 X3 X4 X9 X10 i2 z h
      exact ⟨p, List.mem_append_right _ (List.mem_append_right _ (List.mem_append_right _ hp)), hz⟩
    · obtain ⟨p, hp, hz⟩ := cover3 c i arg1 harg1 arg2 harg2 arg3 harg3 arg4 harg4 arg5 harg5 arg6 harg6 arg7 harg7 arg8 harg8 arg9 harg9 arg10 harg10 arg11 harg11 arg12 harg12 X1 X3 X4 X9 X10 v c15 i3 z h
      exact ⟨p, List.mem_append_right _ (List.mem_append_right _ (List.mem_append_left _ hp)), hz⟩
    · obtain ⟨p, hp, hz⟩ := cover4 c i arg1 harg1 arg2 harg2 arg3 harg3 arg4 harg4 arg5 harg5 arg6 harg6 arg7 harg7 arg8 harg8 arg9 harg9 arg10 harg10 arg11 harg11 arg12 harg12 X1 X3 X4 X9 X10 v c15 i4 z h
      exact ⟨p, List.mem_append_right _ (List.mem_append_left _ hp), hz⟩
    · obtain ⟨p, hp, hz⟩ := cover5 c i arg1 harg1 arg2 harg2 arg3 harg3 arg4 harg4 arg5 harg5 arg6 harg6 arg7 harg7 arg8 harg8 arg9 harg9 arg10 harg10 arg11 harg11 arg12 harg12 X1 X3 X4 X9 X10 v c15 i5 z h
      exact ⟨p, List.mem_append_left _ hp, hz⟩

theorem body_rs (h2 : ∀ j, i2 j = 0) (h3 : ∀ j, i3 j = 0) (h4 : ∀ j, i4 j = 0) (h5 : ∀ j, i5 j = 0) (r : Fin 128) :
    k0_pay144 (k0_pay137 (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).1) (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).1
      (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).1 (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).1 (ix2 r 0)
      = RSof (arg1.view.read (Elt Ideal) X1) x1 (arg3.view.read (Elt Ideal) X3) (arg4.view.read (Elt Ideal) X4) r := by
  have g2 := fun r l => sum2 c i arg1 harg1 arg2 harg2 arg3 harg3 arg4 harg4 arg5 harg5 arg6 harg6 arg7 harg7 arg8 harg8 arg9 harg9 arg10 harg10 arg11 harg11 arg12 harg12 X1 X3 X4 X9 X10 x1 hL hW i2 h2 r l
  have g3 := fun r l => sum3 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i3 h3 r l
  have g4 := fun r l => sum4 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i4 h4 r l
  have g5 := fun r l => sum5 c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i5 h5 r l
  rw [rs_apply]
  generalize (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).1 = s2 at g2 ⊢
  generalize (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).1 = s3 at g3 ⊢
  generalize (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).1 = s4 at g4 ⊢
  generalize (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).1 = s5 at g5 ⊢
  unfold rsOf RSof
  have hb := r.isLt
  have key : ∀ l : Fin 128, (if r.val < 32 then s2 else if r.val < 64 then s3 else if r.val < 96 then s4 else s5) (ix2 (⟨r.val % 32, by omega⟩ : Fin 32) l)
      = sqLane (arg1.view.read (Elt Ideal) X1) x1 (arg3.view.read (Elt Ideal) X3) (arg4.view.read (Elt Ideal) X4) r l := by
    intro l
    split
    · rw [g2]; congr 1; apply Fin.ext; show 32 * 0 + r.val % 32 = r.val; omega
    split
    · rw [g3]; congr 1; apply Fin.ext; show 32 * 1 + r.val % 32 = r.val; omega
    split
    · rw [g4]; congr 1; apply Fin.ext; show 32 * 2 + r.val % 32 = r.val; omega
    · rw [g5]; congr 1; apply Fin.ext; show 32 * 3 + r.val % 32 = r.val; omega
  rw [Finset.sum_congr rfl fun l _ => key l]

omit hL hW in
/-- After the two loops that quantise, the codes' buffer. -/
theorem body_yc (f : BufTy.Contents (Elt Ideal) arg7.view.ty) (w0 w1 : FVec Ideal S128x128 .f32) (N : S128x7168.Idx → EReal) (R : Fin 128 → EReal) (g : Vec Ideal S1x7168 .f32)
    (hY : ∀ z, arg11.view.read (Elt Ideal) X11 z = Yof N R g z)
    (hw0 : ∀ q r : Fin 128, q.val < 128 → w0 (ix2 q r) = IVof N R g (ix2 (rowFrom 0 q) r))
    (hw1 : ∀ q r : Fin 128, q.val < 96 → w1 (ix2 q r) = IVof N R g (ix2 (rowFrom 128 q) r)) (z : S128x7168.Idx) :
    arg7.view.read (Elt Ideal) (arg7.view.writes (Elt Ideal) f (pb_k0_t8 (F := Ideal) Variants.none c none i arg1 harg1 arg2 harg2 arg3 harg3 arg4 harg4 arg5 harg5 arg6 harg6 arg7 harg7 arg8 harg8 arg9 harg9 arg10 harg10 arg11 harg11 arg12 harg12 w1 X11 k0_t8_loop.trips ++ pb_k0_t7 (F := Ideal) Variants.none c none i arg1 harg1 arg2 harg2 arg3 harg3 arg4 harg4 arg5 harg5 arg6 harg6 arg7 harg7 arg8 harg8 arg9 harg9 arg10 harg10 arg11 harg11 arg12 harg12 w0 X11 k0_t7_loop.trips)) z
      = YCof N R g z := by
  refine View.read_writes_apply_of_pieces arg7.view f (YCof N R g) _ ?_ z ?_
  · intro p hp
    rcases List.mem_append.mp hp with hp | hp
    · exact pieces8 c i arg1 harg1 arg2 harg2 arg3 harg3 arg4 harg4 arg5 harg5 arg6 harg6 arg7 harg7 arg8 harg8 arg9 harg9 arg10 harg10 arg11 harg11 arg12 harg12 X11 w1 N R g hY hw1 p hp
    · exact pieces7 c i arg1 harg1 arg2 harg2 arg3 harg3 arg4 harg4 arg5 harg5 arg6 harg6 arg7 harg7 arg8 harg8 arg9 harg9 arg10 harg10 arg11 harg11 arg12 harg12 X11 w0 N R g hY hw0 p hp
  · have a1 : (z 1).val < 7168 := (z 1).isLt
    by_cases h : (z 1).val < 4096
    · obtain ⟨p, hp, hz⟩ := cover7 c i arg1 harg1 arg2 harg2 arg3 harg3 arg4 harg4 arg5 harg5 arg6 harg6 arg7 harg7 arg8 harg8 arg9 harg9 arg10 harg10 arg11 harg11 arg12 harg12 X11 w0 z (by omega) (by omega)
      exact ⟨p, List.mem_append_right _ hp, hz⟩
    · obtain ⟨p, hp, hz⟩ := cover8 c i arg1 harg1 arg2 harg2 arg3 harg3 arg4 harg4 arg5 harg5 arg6 harg6 arg7 harg7 arg8 harg8 arg9 harg9 arg10 harg10 arg11 harg11 arg12 harg12 X11 w1 z (by omega) (by omega)
      exact ⟨p, List.mem_append_left _ hp, hz⟩

section whole
variable (x0 : Vec Ideal S8x128x7168 .fp8e4m3) (x2 : Vec Ideal S1x7168 .f32) (x3 : Vec Ideal S128x7168 .bf16) (x4 : Vec Ideal S1x7168 .f32)

/-- The three results of a point, from its blocks. -/
def outNR : Vec Ideal S128x7168 .bf16 := NR x0 x1 x2 x3
def outYC : Vec Ideal S128x7168 .fp8e4m3 := YCof (NR x0 x1 x2 x3) (RSof x0 x1 x2 x3) x4
def outYS : Vec Ideal S1x224x128 .f32 := YSof (NR x0 x1 x2 x3) (RSof x0 x1 x2 x3) x4

variable (X5 : BufTy.Contents (Elt Ideal) arg5.view.ty) (e1 : arg1.view.read (Elt Ideal) X1 = x0) (e3 : arg3.view.read (Elt Ideal) X3 = x2)
  (e4 : arg4.view.read (Elt Ideal) X4 = x3) (e5 : arg5.view.read (Elt Ideal) X5 = x4)
  (h2 : ∀ j, i2 j = 0) (h3 : ∀ j, i3 j = 0) (h4 : ∀ j, i4 j = 0) (h5 : ∀ j, i5 j = 0) (c15' : Ideal .f32)

include e1 e3 e4 in
theorem out_nr (f : BufTy.Contents (Elt Ideal) arg6.view.ty) :
    arg6.view.read (Elt Ideal) (arg6.view.writes (Elt Ideal) f
      ((st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).2 ++ ((st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).2
        ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).2 ++ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).2))))
      = outNR x1 x0 x2 x3 := by
  subst e1 e3 e4
  exact funext fun z => body_nr c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 f z

/-- What the loop that normalises and scales leaves, after the four before it. -/
abbrev scaled (f : BufTy.Contents (Elt Ideal) arg6.view.ty) :=
  pb_k0_t6 (F := Ideal) Variants.none c none i arg1 harg1 arg2 harg2 arg3 harg3 arg4 harg4 arg5 harg5 arg6 harg6 arg7 harg7 arg8 harg8 arg9 harg9 arg10 harg10 arg11 harg11 arg12 harg12 (k0_pay137 (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).1) c15'
    (st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).1
    (st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).1 (st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).1 X5
    (arg6.view.writes (Elt Ideal) f
      ((st_k0_t5 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i5 k0_t5_loop.trips).2 ++ ((st_k0_t4 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i4 k0_t4_loop.trips).2
        ++ ((st_k0_t3 (F := Ideal) Variants.none c none i arg1 harg1 arg2 harg2 arg3 harg3 arg4 harg4 arg5 harg5 arg6 harg6 arg7 harg7 arg8 harg8 arg9 harg9 arg10 harg10 arg11 harg11 arg12 harg12 v c15 X1 X3 X4 X9 X10 i3 k0_t3_loop.trips).2 ++ (st_k0_t2 (F := Ideal) Variants.none c none i arg1 harg1 arg2 harg2 arg3 harg3 arg4 harg4 arg5 harg5 arg6 harg6 arg7 harg7 arg8 harg8 arg9 harg9 arg10 harg10 arg11 harg11 arg12 harg12 X1 X3 X4 X9 X10 i2 k0_t2_loop.trips).2))))
    k0_t6_loop.trips

include e1 e3 e4 e5 h2 h3 h4 h5 in
theorem out_ys (f : BufTy.Contents (Elt Ideal) arg6.view.ty) (f8 : BufTy.Contents (Elt Ideal) arg8.view.ty) :
    arg8.view.read (Elt Ideal) (arg8.view.writes (Elt Ideal) f8 (scaled c i arg1 harg1 arg2 harg2 arg3 harg3 arg4 harg4 arg5 harg5 arg6 harg6 arg7 harg7 arg8 harg8 arg9 harg9 arg10 harg10 arg11 harg11 arg12 harg12 X1 X3 X4 X9 X10 v c15 i2 i3 i4 i5 X5 c15' f).1) = outYS x1 x0 x2 x3 x4 := by
  subst e1 e3 e4 e5
  exact funext fun z => read6_s c i arg1 harg1 arg2 harg2 arg3 harg3 arg4 harg4 arg5 harg5 arg6 harg6 arg7 harg7 arg8 harg8 arg9 harg9 arg10 harg10 arg11 harg11 arg12 harg12 X5 _ _ c15' _ _ _ (NR _ x1 _ _) (RSof _ x1 _ _)
    (body_nr c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 f)
    (body_rs c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 h2 h3 h4 h5) f8 z

include e1 e3 e4 e5 h2 h3 h4 h5 in
theorem mid_y (f : BufTy.Contents (Elt Ideal) arg6.view.ty) (f11 : BufTy.Contents (Elt Ideal) arg11.view.ty) (z : S128x7168.Idx) :
    arg11.view.read (Elt Ideal) (arg11.view.writes (Elt Ideal) f11 (scaled c i arg1 harg1 arg2 harg2 arg3 harg3 arg4 harg4 arg5 harg5 arg6 harg6 arg7 harg7 arg8 harg8 arg9 harg9 arg10 harg10 arg11 harg11 arg12 harg12 X1 X3 X4 X9 X10 v c15 i2 i3 i4 i5 X5 c15' f).2.1) z
      = Yof (NR x0 x1 x2 x3) (RSof x0 x1 x2 x3) x4 z := by
  subst e1 e3 e4 e5
  exact read6_y c i arg1 harg1 arg2 harg2 arg3 harg3 arg4 harg4 arg5 harg5 arg6 harg6 arg7 harg7 arg8 harg8 arg9 harg9 arg10 harg10 arg11 harg11 arg12 harg12 X5 _ _ c15' _ _ _ (NR _ x1 _ _) (RSof _ x1 _ _)
    (body_nr c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 f)
    (body_rs c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 h2 h3 h4 h5) f11 z

include e1 e3 e4 e5 h2 h3 h4 h5 in
theorem mid_i (f : BufTy.Contents (Elt Ideal) arg6.view.ty) (f12 : BufTy.Contents (Elt Ideal) arg12.view.ty) (z : S256x128.Idx) (hz : (z 0).val < 224) :
    arg12.view.read (Elt Ideal) (arg12.view.writes (Elt Ideal) f12 (scaled c i arg1 harg1 arg2 harg2 arg3 harg3 arg4 harg4 arg5 harg5 arg6 harg6 arg7 harg7 arg8 harg8 arg9 harg9 arg10 harg10 arg11 harg11 arg12 harg12 X1 X3 X4 X9 X10 v c15 i2 i3 i4 i5 X5 c15' f).2.2) z
      = IVof (NR x0 x1 x2 x3) (RSof x0 x1 x2 x3) x4 z := by
  subst e1 e3 e4 e5
  exact read6_i c i arg1 harg1 arg2 harg2 arg3 harg3 arg4 harg4 arg5 harg5 arg6 harg6 arg7 harg7 arg8 harg8 arg9 harg9 arg10 harg10 arg11 harg11 arg12 harg12 X5 _ _ c15' _ _ _ (NR _ x1 _ _) (RSof _ x1 _ _)
    (body_nr c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 f)
    (body_rs c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 h2 h3 h4 h5) f12 z hz

include e1 e3 e4 e5 h2 h3 h4 h5 in
/-- The same, over a buffer already stored into. -/
theorem mid_i' (L0 : List (View.Piece (Elt Ideal) S256x128 .f32)) (f : BufTy.Contents (Elt Ideal) arg6.view.ty) (f12 : BufTy.Contents (Elt Ideal) arg12.view.ty) (z : S256x128.Idx) (hz : (z 0).val < 224) :
    arg12.view.read (Elt Ideal) (arg12.view.writes (Elt Ideal) f12 ((scaled c i arg1 harg1 arg2 harg2 arg3 harg3 arg4 harg4 arg5 harg5 arg6 harg6 arg7 harg7 arg8 harg8 arg9 harg9 arg10 harg10 arg11 harg11 arg12 harg12 X1 X3 X4 X9 X10 v c15 i2 i3 i4 i5 X5 c15' f).2.2 ++ L0)) z
      = IVof (NR x0 x1 x2 x3) (RSof x0 x1 x2 x3) x4 z := by
  rw [View.writes_append]
  exact mid_i c i arg1 harg1 arg2 harg2 arg3 harg3 arg4 harg4 arg5 harg5 arg6 harg6 arg7 harg7 arg8 harg8 arg9 harg9 arg10 harg10 arg11 harg11 arg12 harg12 X1 X3 X4 X9 X10 x1 hL hW v c15 i2 i3 i4 i5 x0 x2 x3 x4 X5 e1 e3 e4 e5 h2 h3 h4 h5 c15' f _ z hz

end whole

end Cert.Hand
-- ==== Proof.SelVal.lean ====
/- The scratch of selectors, and the two halves of the reciprocals' scratch. -/
module

public import proofs.«01_k».proof.Proof.BodyVal

@[expose] public section

set_option maxRecDepth 16384

noncomputable section

namespace Cert.Hand

open Idealize.ShloMosaic Idealize.ShloMosaic.TcCoe Idealize.ShloMosaic.Tactic
open Cert.KernelIdeal Cert.KernelIdeal.Gen
/-- The scratch of selectors, as the first point fills it. -/
def selW : Vec Ideal S16x256x256 .bf16 := fun z => wSel (z 0).val (z 1) (z 2)

theorem zero135 : ∀ j, k0_pay135 (F := Ideal) j = 0 := fun _ => Ideal.ofBits_zero_f32
theorem zero138 : ∀ j, k0_pay138 (F := Ideal) (Scalar.ofBits .f32 0x00000000#32) j = 0 := fun _ => Ideal.ofBits_zero_f32
theorem zero140 : ∀ j, k0_pay140 (F := Ideal) j = 0 := fun _ => Ideal.ofBits_zero_f32
theorem zero142 : ∀ j, k0_pay142 (F := Ideal) j = 0 := fun _ => Ideal.ofBits_zero_f32

theorem sel_at (m : Fin 16) (k l : Fin 256) : selW (ix3 m k l) = wSel m.val k l := rfl

/-- One plane of selectors agrees with the scratch's contents where it lies. -/
theorem plane (m : Fin 16) (inb : ∀ t, (![m.val, 0, 0] : Fin 3 → ℕ) t + S1x256x256.size t ≤ S16x256x256.size t) (v : Vec Ideal S1x256x256 .bf16)
    (h : ∀ k l, v (ix3 0 k l) = wSel m.val k l) (x : S1x256x256.Idx) :
    v x = selW ((Rect.unit (s := S16x256x256) ![m.val, 0, 0] S1x256x256.size inb).emb x) := by
  obtain ⟨a, k, l, rfl⟩ : ∃ a k l, x = ix3 a k l := ⟨_, _, _, eq_ix3 x⟩
  obtain rfl : a = 0 := Subsingleton.elim _ _
  have he := emb_at' (s := S16x256x256) inb rfl (ix3 0 k l) (ix3 m k l) (by
    intro t
    fin_cases t
    · rfl
    · show k.val = 0 + k.val
      omega
    · show l.val = 0 + l.val
      omega)
  exact (h k l).trans (congrArg selW he.symm)

theorem row_lo (q r : Fin 128) : ∀ a : Fin 2, ((ix2 (rowFrom 0 q) r : S256x128.Idx) a).val = (![0, 0] : Fin 2 → ℕ) a + ((ix2 q r : S128x128.Idx) a).val := by
  intro a
  fin_cases a
  · show (0 + q.val) % 256 = 0 + q.val
    omega
  · show r.val = 0 + r.val
    omega

theorem row_hi (q r : Fin 128) : ∀ a : Fin 2, ((ix2 (rowFrom 128 q) r : S256x128.Idx) a).val = (![128, 0] : Fin 2 → ℕ) a + ((ix2 q r : S128x128.Idx) a).val := by
  intro a
  fin_cases a
  · show (128 + q.val) % 256 = 128 + q.val
    omega
  · show r.val = 0 + r.val
    omega

theorem row_lt (m : ℕ) (q r : Fin 128) (h : m + q.val < 224) : ((ix2 (rowFrom m q) r : S256x128.Idx) 0).val < 224 := by
  show (m + q.val) % 256 < 224
  omega

end Cert.Hand
-- ==== Proof.RunA.lean ====
/- One point of the grid: what the body leaves, from the blocks it reads. -/
module

public import proofs.«01_k».proof.Proof.SelVal

@[expose] public section

set_option maxRecDepth 16384

noncomputable section

namespace Cert.Hand

open Idealize.ShloMosaic Idealize.ShloMosaic.TcCoe Idealize.ShloMosaic.Tactic
open Cert.KernelIdeal Cert.KernelIdeal.Gen

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
set_option maxHeartbeats 2000000 in
/-- The body at the first point, which fills the scratch of selectors: what it leaves in each buffer. -/
theorem runA (hc0 : cond0_0 i) (x0 : Vec Ideal S8x128x7168 .fp8e4m3) (x1 : Vec Ideal S8x1x224x128 .f32) (x2 : Vec Ideal S1x7168 .f32) (x3 : Vec Ideal S128x7168 .bf16) (x4 : Vec Ideal S1x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outNR x1 x0 x2 x3) ∗ owns (c : Thread nD τ) arg7 fullShare (outYC x1 x0 x2 x3 x4) ∗ owns (c : Thread nD τ) arg8 fullShare (outYS x1 x0 x2 x3 x4) ∗ owns (c : Thread nD τ) arg9 fullShare selW ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0_dequant_sum_norm_quant i arg1 harg1 arg2 harg2 arg3 harg3 arg4 harg4 arg5 harg5 arg6 harg6 arg7 harg7 arg8 harg8 arg9 harg9 arg10 harg10 arg11 harg11 arg12 harg12) K := by
  simp only [cc0_dequant_sum_norm_quant_eq_skeleton]; unfold cc0_dequant_sum_norm_quant_skel
  simp only [k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  have hL : ∀ z, arg10.view.read (Elt Ideal) (arg10.view.writes (Elt Ideal) fs1 (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) k0_t1_loop.trips)) z = lhsAt (fun s => oTile (shard x1 s)) z :=
    fun z => (lhs_read c i arg1 harg1 arg2 harg2 arg3 harg3 arg4 harg4 arg5 harg5 arg6 harg6 arg7 harg7 arg8 harg8 arg9 harg9 arg10 harg10 arg11 harg11 arg12 harg12 (harg2.unread x1) fs1 z).trans (by rw [harg2.read_unread])
  have hsel : arg9.view.read (Elt Ideal) (arg9.view.writes (Elt Ideal) arg9.view.junk runA.sl.HS0_16) = selW := by
    refine funext fun z => View.read_writes_apply_of_pieces arg9.view arg9.view.junk selW runA.sl.HS0_16 ?_ z (View.cover_of_tiledL runA.sl.HS0_16 S1x256x256.size (by sl_kernel_rfl) z)
    unfold runA.sl.HS0_16
    simp only [List.forall_mem_cons]
    exact ⟨plane 15 _ _ fun k l => (planes_apply k l).2.2.2.2.2.2.2.2.2.2.2.2.2.2.2, plane 14 _ _ fun k l => (planes_apply k l).2.2.2.2.2.2.2.2.2.2.2.2.2.2.1, plane 13 _ _ fun k l => (planes_apply k l).2.2.2.2.2.2.2.2.2.2.2.2.2.1, plane 12 _ _ fun k l => (planes_apply k l).2.2.2.2.2.2.2.2.2.2.2.2.1, plane 11 _ _ fun k l => (planes_apply k l).2.2.2.2.2.2.2.2.2.2.2.1, plane 10 _ _ fun k l => (planes_apply k l).2.2.2.2.2.2.2.2.2.2.1, plane 9 _ _ fun k l => (planes_apply k l).2.2.2.2.2.2.2.2.2.1, plane 8 _ _ fun k l => (planes_apply k l).2.2.2.2.2.2.2.2.1, plane 7 _ _ fun k l => (planes_apply k l).2.2.2.2.2.2.2.1, plane 6 _ _ fun k l => (planes_apply k l).2.2.2.2.2.2.1, plane 5 _ _ fun k l => (planes_apply k l).2.2.2.2.2.1, plane 4 _ _ fun k l => (planes_apply k l).2.2.2.2.1, plane 3 _ _ fun k l => (planes_apply k l).2.2.2.1, plane 2 _ _ fun k l => (planes_apply k l).2.2.1, plane 1 _ _ fun k l => (planes_apply k l).2.1, plane 0 _ _ fun k l => (planes_apply k l).1, fun p hp => absurd hp List.not_mem_nil⟩
  have hW : ∀ (m : Fin 16) (k l : Fin 256), arg9.view.read (Elt Ideal) (arg9.view.writes (Elt Ideal) arg9.view.junk runA.sl.HS0_16) (ix3 m k l) = wSel m.val k l :=
    fun m k l => (congrFun hsel _).trans (sel_at m k l)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact out_nr c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 (harg1.read_unread _) (harg3.read_unread _) (harg4.read_unread _) _
  isplitl [H6]
  · iexists _; isplitr; swap; · iexact H6
    ipureintro
    refine funext fun z => body_yc c i arg1 harg1 arg2 harg2 arg3 harg3 arg4 harg4 arg5 harg5 arg6 harg6 arg7 harg7 arg8 harg8 arg9 harg9 arg10 harg10 arg11 harg11 arg12 harg12 _ _ _ _ (NR x0 x1 x2 x3) (RSof x0 x1 x2 x3) x4 ?_ ?_ ?_ z
    · exact fun z => mid_y c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ z
    · exact fun q r hq => (readAt_at arg12.view _ _ rfl (ix2 q r) (ix2 (rowFrom 0 q) r) (row_lo q r)).trans (mid_i' c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ _ _ (row_lt 0 q r (by omega)))
    · exact fun q r hq => (readAt_at arg12.view _ _ rfl (ix2 q r) (ix2 (rowFrom 128 q) r) (row_hi q r)).trans (mid_i' c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ _ _ (row_lt 128 q r (by omega)))
  isplitl [H7]
  · iexists _; isplitr; swap; · iexact H7
    ipureintro
    exact out_ys c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _
  isplitl [HS0]
  · iexists _; isplitr; swap; · iexact HS0
    ipureintro
    exact hsel
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Hand
-- ==== Proof.RunB.lean ====
/- One point of the grid: what the body leaves, from the blocks it reads. -/
module

public import proofs.«01_k».proof.Proof.SelVal

@[expose] public section

set_option maxRecDepth 16384

noncomputable section

namespace Cert.Hand

open Idealize.ShloMosaic Idealize.ShloMosaic.TcCoe Idealize.ShloMosaic.Tactic
open Cert.KernelIdeal Cert.KernelIdeal.Gen

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords) (arg1 : Memref sig .tc .vmem S8x128x7168 .fp8e4m3) (harg1 : arg1.IsWhole)
  (arg2 : Memref sig .tc .vmem S8x1x224x128 .f32) (harg2 : arg2.IsWhole)
  (arg3 : Memref sig .tc .vmem S1x7168 .f32) (harg3 : arg3.IsWhole)
  (arg4 : Memref sig .tc .vmem S128x7168 .bf16) (harg4 : arg4.IsWhole)
  (arg5 : Memref sig .tc .vmem S1x7168 .f32) (harg5 : arg5.IsWhole)
  (arg6 : Memref sig .tc .vmem S128x7168 .bf16) (harg6 : arg6.IsWhole)
  (arg7 : Memref sig .tc .vmem S128x7168 .fp8e4m3) (harg7 : arg7.IsWhole)
  (arg8 : Memref sig .tc .vmem S1x224x128 .f32) (harg8 : arg8.IsWhole)
  (arg9 : Memref sig .tc .vmem S16x256x256 .bf16) (harg9 : arg9.IsWhole)
  (arg10 : Memref sig .tc .vmem S4x2x128x256 .bf16) (harg10 : arg10.IsWhole)
  (arg11 : Memref sig .tc .vmem S128x7168 .f32) (harg11 : arg11.IsWhole)
  (arg12 : Memref sig .tc .vmem S256x128 .f32) (harg12 : arg12.IsWhole)
set_option maxHeartbeats 2000000 in
/-- The body at any later point, which finds the scratch of selectors filled: what it leaves in each buffer. -/
theorem runB (hc0 : ¬cond0_0 i) (x0 : Vec Ideal S8x128x7168 .fp8e4m3) (x1 : Vec Ideal S8x1x224x128 .f32) (x2 : Vec Ideal S1x7168 .f32) (x3 : Vec Ideal S128x7168 .bf16) (x4 : Vec Ideal S1x7168 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare selW ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outNR x1 x0 x2 x3) ∗ owns (c : Thread nD τ) arg7 fullShare (outYC x1 x0 x2 x3 x4) ∗ owns (c : Thread nD τ) arg8 fullShare (outYS x1 x0 x2 x3 x4) ∗ owns (c : Thread nD τ) arg9 fullShare selW ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := Ideal)) Variants.none c none) E (cc0_dequant_sum_norm_quant i arg1 harg1 arg2 harg2 arg3 harg3 arg4 harg4 arg5 harg5 arg6 harg6 arg7 harg7 arg8 harg8 arg9 harg9 arg10 harg10 arg11 harg11 arg12 harg12) K := by
  simp only [cc0_dequant_sum_norm_quant_eq_skeleton]; unfold cc0_dequant_sum_norm_quant_skel
  simp only [k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hfs0
  sl_exec (disch := first | sl_exact hc0)
  have hL : ∀ z, arg10.view.read (Elt Ideal) (arg10.view.writes (Elt Ideal) fs1 (pb_k0_t1 (F := Ideal) Variants.none c none i arg1 harg1 arg2 harg2 arg3 harg3 arg4 harg4 arg5 harg5 arg6 harg6 arg7 harg7 arg8 harg8 arg9 harg9 arg10 harg10 arg11 harg11 arg12 harg12 (harg2.unread x1) k0_t1_loop.trips)) z = lhsAt (fun s => oTile (shard x1 s)) z :=
    fun z => (lhs_read c i arg1 harg1 arg2 harg2 arg3 harg3 arg4 harg4 arg5 harg5 arg6 harg6 arg7 harg7 arg8 harg8 arg9 harg9 arg10 harg10 arg11 harg11 arg12 harg12 (harg2.unread x1) fs1 z).trans (by rw [harg2.read_unread])
  have hsel : arg9.view.read (Elt Ideal) (harg9.unread selW) = selW := harg9.read_unread _
  have hW : ∀ (m : Fin 16) (k l : Fin 256), arg9.view.read (Elt Ideal) (harg9.unread selW) (ix3 m k l) = wSel m.val k l :=
    fun m k l => (congrFun hsel _).trans (sel_at m k l)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact out_nr c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 (harg1.read_unread _) (harg3.read_unread _) (harg4.read_unread _) _
  isplitl [H6]
  · iexists _; isplitr; swap; · iexact H6
    ipureintro
    refine funext fun z => body_yc c i arg1 harg1 arg2 harg2 arg3 harg3 arg4 harg4 arg5 harg5 arg6 harg6 arg7 harg7 arg8 harg8 arg9 harg9 arg10 harg10 arg11 harg11 arg12 harg12 _ _ _ _ (NR x0 x1 x2 x3) (RSof x0 x1 x2 x3) x4 ?_ ?_ ?_ z
    · exact fun z => mid_y c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ z
    · exact fun q r hq => (readAt_at arg12.view _ _ rfl (ix2 q r) (ix2 (rowFrom 0 q) r) (row_lo q r)).trans (mid_i c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ _ (row_lt 0 q r (by omega)))
    · exact fun q r hq => (readAt_at arg12.view _ _ rfl (ix2 q r) (ix2 (rowFrom 128 q) r) (row_hi q r)).trans (mid_i c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _ _ (row_lt 128 q r (by omega)))
  isplitl [H7]
  · iexists _; isplitr; swap; · iexact H7
    ipureintro
    exact out_ys c i arg1 harg1 arg2 harg2 arg3 harg3 arg4 harg4 arg5 harg5 arg6 harg6 arg7 harg7 arg8 harg8 arg9 harg9 arg10 harg10 arg11 harg11 arg12 harg12 (harg1.unread x0) (harg3.unread x2) (harg4.unread x3) _ _ x1 hL hW _ _ _ _ _ _ x0 x2 x3 x4 (harg5.unread x4) (harg1.read_unread _) (harg3.read_unread _) (harg4.read_unread _) (harg5.read_unread _) zero135 zero138 zero140 zero142 _ _ _
  isplitl [HS0]
  · iexists _; isplitr; swap; · iexact HS0
    ipureintro
    exact hsel
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Hand
-- ==== Proof.FrameVal.lean ====
/- The pipeline of the kernel with its outputs named: after each point the three output windows hold `outNR`, `outYC` and
    `outYS` of the point's blocks, and the scratch of selectors holds `selW` from the first point on. -/
module

public import proofs.«01_k».proof.Proof.RunA
public import proofs.«01_k».proof.Proof.RunB
public import proofs.«01_k».proof.Proof.Gen.KernelIdeal.Frame
public import Idealize.ShloMosaic.Lib.Claim

@[expose] public section

set_option maxRecDepth 16384

noncomputable section

namespace Cert.Hand

open Idealize.ShloMosaic Idealize.ShloMosaic.TcCoe Idealize.ShloMosaic.Tactic
open Cert.KernelIdeal Cert.KernelIdeal.Gen

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body is called with and returns besides its windows: any scratch before the first point, afterwards the
    selectors' scratch at `selW` and the rest at some state. -/
def PhiS (c : Dev nD) : (n : ℕ) → n ≤ cfg0.N → sProp 𝕄
  | 0, _ => Pipeline.ΦA spec0 c
  | _ + 1, _ => iprop((owns (c : Thread nD τ) scM0_0 fullShare selW
      ∗ (∃ d, owns (c : Thread nD τ) scM0_1 fullShare d) ∗ (∃ d, owns (c : Thread nD τ) scM0_2 fullShare d)
      ∗ (∃ d, owns (c : Thread nD τ) scM0_3 fullShare d)) ∗ ∃ r, prngReg c r)

theorem PhiS_zero (c : Dev nD) (n : ℕ) (h : n ≤ cfg0.N) (hz : n = 0) : PhiS c n h = Pipeline.ΦA spec0 c := by
  subst hz; rfl

theorem PhiS_pos (c : Dev nD) (n : ℕ) (h : n ≤ cfg0.N) (hz : n ≠ 0) : PhiS c n h = iprop((owns (c : Thread nD τ) scM0_0 fullShare selW
      ∗ (∃ d, owns (c : Thread nD τ) scM0_1 fullShare d) ∗ (∃ d, owns (c : Thread nD τ) scM0_2 fullShare d)
      ∗ (∃ d, owns (c : Thread nD τ) scM0_3 fullShare d)) ∗ ∃ r, prngReg c r) := by
  cases n with
  | zero => exact absurd rfl hz
  | succ n => rfl

/-- The proof data of the pipeline: the arrays as the launch hands them, each input at its block, each output at what the
    body computes of the point's blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outNR (iblk m c 1 t) (iblk m c 0 t) (iblk m c 2 t) (iblk m c 3 t)
    | ⟨6, _⟩ => outYC (iblk m c 1 t) (iblk m c 0 t) (iblk m c 2 t) (iblk m c 3 t) (iblk m c 4 t)
    | ⟨7, _⟩ => outYS (iblk m c 1 t) (iblk m c 0 t) (iblk m c 2 t) (iblk m c 3 t) (iblk m c 4 t)
  Φ t := PhiS c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS c t.val (Nat.le_of_lt t.isLt) := by
  dsimp only [dats]; exact Pipeline.Dat.Φ_castSucc (PhiS c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outNR (iblk m c 1 t) (iblk m c 0 t) (iblk m c 2 t) (iblk m c 3 t) := by dsimp only [dats]
theorem after_6 (c : Dev nD) (t : Fin cfg0.N) : (dats m 0 c).after 6 t = outYC (iblk m c 1 t) (iblk m c 0 t) (iblk m c 2 t) (iblk m c 3 t) (iblk m c 4 t) := by dsimp only [dats]
theorem after_7 (c : Dev nD) (t : Fin cfg0.N) : (dats m 0 c).after 7 t = outYS (iblk m c 1 t) (iblk m c 0 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs hold their blocks, and the run of the point's case applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6, after_7]
  rw [show (dats m 0 c).Φ t.succ = PhiS c (t.val + 1) t.isLt from rfl, PhiS_pos c (t.val + 1) _ (Nat.succ_ne_zero _)]
  have hN : t.val < 16 := lt_of_lt_of_eq t.isLt (show cfg0.N = 16 from N_0)
  by_cases h0 : t.val % 16 = 0
  · have hz : t.val = 0 := by omega
    · rw [PhiS_castSucc m c t, PhiS_zero c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := by omega
    · rw [PhiS_castSucc m c t, PhiS_pos c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS c 0 (Nat.zero_le _) from rfl, PhiS_zero c 0 _ rfl]

theorem hout (c : Dev nD) : (dats m 0 c).Φ (Fin.last cfg0.N) ⊢ Pipeline.ΦA spec0 c := by
  rw [show (dats m 0 c).Φ (Fin.last cfg0.N) = PhiS c (Fin.last cfg0.N).val (Nat.le_of_lt_succ (Fin.last cfg0.N).isLt) from rfl,
    PhiS_pos c _ _ (by rw [Fin.val_last]; have : cfg0.N = 16 := N_0; omega), PhiA0_eq]
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexact HS3
  iexact Hg

-- the launch theorem's implicit arguments are found by unifying its conclusion with this one
set_option backward.isDefEq.respectTransparency.types false in
/-- The launch: every array of the pipeline ends at what the proof data say, every other buffer as the host left it, and every
    semaphore counter at zero. -/
theorem run_named : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The kernel's frame, counters included. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_named m ρ)))
    ((θ_run defs _ _).mono (fun _ h => h.2) (run_named m ρ))

end Cert.Hand
-- ==== Proof.HostVal.lean ====
/- The kernel's arrays at the region's entry and the blocks of a point, at coordinates, in terms of the arguments. -/
module

public import proofs.«01_k».proof.Proof.Rows
public import proofs.«01_k».proof.Proof.Gen.KernelIdeal.Frame
public import Idealize.ShloMosaic.Lib.Claim
public import Idealize.ShloMosaic.Lib.StableHlo.ReadAt
public import Idealize.ShloMosaic.Lib.Pipeline.ValueKit

@[expose] public section

set_option maxRecDepth 16384

noncomputable section

namespace Cert.Hand

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The arguments by flat row. -/
def argP (d : Fin 8) (row : Fin 2048) (l : Fin 7168) : EReal :=
  m ((c.tc : Thread nD τ).loc main_arg0) (ix4 d ⟨row.val / 1024, by omega⟩ ⟨row.val % 1024, by omega⟩ l)
def argS (d : Fin 8) (row : Fin 2048) (k : Fin 224) : EReal :=
  m ((c.tc : Thread nD τ).loc main_arg1) (ix4 d ⟨row.val / 1024, by omega⟩ ⟨row.val % 1024, by omega⟩ k)
def argB (l : Fin 7168) : EReal := m ((c.tc : Thread nD τ).loc main_arg2) (ix1 l)
def argX (row : Fin 2048) (l : Fin 7168) : EReal :=
  m ((c.tc : Thread nD τ).loc main_arg3) (ix3 ⟨row.val / 1024, by omega⟩ ⟨row.val % 1024, by omega⟩ l)
def argG (l : Fin 7168) : EReal := m ((c.tc : Thread nD τ).loc main_arg4) (ix1 l)

theorem V0_at (d : Fin 8) (row : Fin 2048) (l : Fin 7168) : (V m c main_v0 (ix3 d row l) : EReal) = argP m c d row l := by
  unfold V argP
  after_reads_at

theorem V1_at (d : Fin 8) (b : Fin 2) (k : Fin 224) (s : Fin 1024) :
    (V m c main_v1 (ix4 d b k s) : EReal) = argS m c d ⟨1024 * b.val + s.val, by omega⟩ k := by
  have e0 : (⟨(1024 * b.val + s.val) / 1024, by omega⟩ : Fin 2) = b := Fin.ext (by show (1024 * b.val + s.val) / 1024 = b.val; omega)
  have e1 : (⟨(1024 * b.val + s.val) % 1024, by omega⟩ : Fin 1024) = s := Fin.ext (by show (1024 * b.val + s.val) % 1024 = s.val; omega)
  unfold V argS
  rw [e0, e1]
  after_reads_at

theorem V2_at (l : Fin 7168) : (V m c main_v2 (ix2 0 l) : EReal) = argB m c l := by
  unfold V argB
  after_reads_at

theorem V3_at (row : Fin 2048) (l : Fin 7168) : (V m c main_v3 (ix2 row l) : EReal) = argX m c row l := by
  unfold V argX
  after_reads_at

theorem V4_at (l : Fin 7168) : (V m c main_v4 (ix2 0 l) : EReal) = argG m c l := by
  unfold V argG
  after_reads_at

end Cert.Hand
-- ==== Proof.Blocks.lean ====
/- The blocks of a point, at coordinates, in terms of the arguments. -/
module

public import proofs.«01_k».proof.Proof.HostVal
public import proofs.«01_k».proof.Proof.Gen.KernelIdeal.Points
public import Idealize.ShloMosaic.Lib.Pipeline.ValueKit

@[expose] public section

set_option maxRecDepth 16384

noncomputable section

namespace Cert.Hand

open Idealize.ShloMosaic Idealize.ShloMosaic.TcCoe Idealize.ShloMosaic.Tactic
open Cert.KernelIdeal Cert.KernelIdeal.Gen

theorem idx0 : ∀ t : Fin cfg0.N, win0_0.index t = ![0, t.val, 0] := (by decide +kernel : ∀ t : Fin grid0.N, _)
theorem idx1 : ∀ t : Fin cfg0.N, win0_1.index t = ![0, t.val / 8, 0, t.val % 8] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 8, 0, t.val % 8] := (by decide +kernel : ∀ t : Fin grid0.N, _)

theorem pt_lt (t : Fin cfg0.N) : t.val < 16 := lt_of_lt_of_eq t.isLt (show cfg0.N = 16 from N_0)

/-- The flat row of a row of a point's blocks. -/
def rowAt (t : Fin cfg0.N) (r : Fin 128) : Fin 2048 := ⟨128 * t.val + r.val, by have := pt_lt t; omega⟩

variable (m : (ℓ : Loc nD τ sig) → Buf (Elt Ideal) ℓ) (c : Dev nD) (t : Fin cfg0.N)

theorem blk0_at (d : Fin 8) (r : Fin 128) (l : Fin 7168) : (iblk m c 0 t (ix3 d r l) : EReal) = argP m c d (rowAt t r) l := by
  rw [← V0_at]
  blk_simp [iblk]
  refine congrArg (V m c main_v0) ?_
  unfold rowAt
  blk_ext [idx0]

theorem blk1_at (d : Fin 8) (k : Fin 224) (r : Fin 128) : (iblk m c 1 t (ix4 d 0 k r) : EReal) = argS m c d (rowAt t r) k := by
  have ht := pt_lt t
  have e : rowAt t r = ⟨1024 * (⟨t.val / 8, by omega⟩ : Fin 2).val + (⟨128 * (t.val % 8) + r.val, by omega⟩ : Fin 1024).val, by
      show 1024 * (t.val / 8) + (128 * (t.val % 8) + r.val) < 2048; omega⟩ :=
    Fin.ext (by show 128 * t.val + r.val = 1024 * (t.val / 8) + (128 * (t.val % 8) + r.val); omega)
  rw [e, ← V1_at]
  blk_simp [iblk]
  refine congrArg (V m c main_v1) ?_
  blk_ext [idx1]

theorem blk2_at (l : Fin 7168) : (iblk m c 2 t (ix2 0 l) : EReal) = argB m c l := by
  rw [← V2_at]
  blk_simp [iblk]
  refine congrArg (V m c main_v2) ?_
  blk_ext [idx2]

theorem blk3_at (r : Fin 128) (l : Fin 7168) : (iblk m c 3 t (ix2 r l) : EReal) = argX m c (rowAt t r) l := by
  rw [← V3_at]
  blk_simp [iblk]
  refine congrArg (V m c main_v3) ?_
  unfold rowAt
  blk_ext [idx3]

theorem blk4_at (l : Fin 7168) : (iblk m c 4 t (ix2 0 l) : EReal) = argG m c l := by
  rw [← V4_at]
  blk_simp [iblk]
  refine congrArg (V m c main_v4) ?_
  blk_ext [idx4]

end Cert.Hand
-- ==== Proof.KernelArr.lean ====
/- The kernel's three result arrays, in terms of the arguments. -/
module

public import proofs.«01_k».proof.Proof.FrameVal
public import proofs.«01_k».proof.Proof.Blocks

@[expose] public section

set_option maxRecDepth 16384

noncomputable section

namespace Cert.Hand

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg) (c : Dev nD)

/-- The new residual, the normalised row, and a group's largest magnitude over the largest code. -/
def kN : Fin 2048 → Fin 7168 → EReal := nrAt (argP m c) (snap (argS m c)) (argB m c) (argX m c)
def kY : Fin 2048 → Fin 7168 → EReal := normed (kN m c) (rsLanes (kN m c)) (argG m c)

/-- The three arrays. -/
def kNR : S2048x7168.Idx → EReal := fun y => kN m c (y 0) (y 1)
def kYC : S2048x7168.Idx → EReal := fun y => codeAt (kY m c) (fun row k => ivOf (amaxAt (kY m c) row k)) (y 0) (y 1)
def flatRow (b : Fin 2) (s : Fin 1024) : Fin 2048 := ⟨1024 * b.val + s.val, by omega⟩
def kYS : S2x224x1024.Idx → EReal := fun y => ysOf (amaxAt (kY m c) (flatRow (y 0) (y 2)) (y 1))

section
variable (t : Fin cfg0.N)

theorem NR_blk (r : Fin 128) (l : Fin 7168) : NR (iblk m c 0 t) (iblk m c 1 t) (iblk m c 2 t) (iblk m c 3 t) (ix2 r l) = kN m c (rowAt t r) l := by
  unfold NR kN nrAt snap
  refine congrArg₂ _ (congrArg₂ _ (Finset.sum_congr rfl fun d _ => ?_) (blk2_at m c t l)) (blk3_at m c t r l)
  refine congrArg₂ _ (blk0_at m c t d r l) (congrArg (fun v => Pw (bexp v)) ?_)
  exact blk1_at m c t d ⟨l.val / 32, by omega⟩ r

theorem RS_blk (r : Fin 128) : RSof (iblk m c 0 t) (iblk m c 1 t) (iblk m c 2 t) (iblk m c 3 t) r = rsLanes (kN m c) (rowAt t r) := by
  have h : ∀ q, NRc (iblk m c 0 t) (iblk m c 1 t) (iblk m c 2 t) (iblk m c 3 t) r q = padded (kN m c) (rowAt t r) q := by
    intro q
    unfold NRc padded
    by_cases hq : q < 7168
    · rw [dif_pos hq, dif_pos hq, NR_blk]
    · rw [dif_neg hq, dif_neg hq]
  unfold RSof rsLanes sqLane
  simp only [h]

theorem Y_blk (r : Fin 128) (l : Fin 7168) :
    Yof (NR (iblk m c 0 t) (iblk m c 1 t) (iblk m c 2 t) (iblk m c 3 t)) (RSof (iblk m c 0 t) (iblk m c 1 t) (iblk m c 2 t) (iblk m c 3 t)) (iblk m c 4 t) (ix2 r l)
      = kY m c (rowAt t r) l := by
  unfold Yof kY normed
  exact congrArg₂ _ (congrArg₂ _ (NR_blk m c t r l) (RS_blk m c t r)) (blk4_at m c t l)

theorem A_blk (k : Fin 224) (r : Fin 128) :
    Aof (NR (iblk m c 0 t) (iblk m c 1 t) (iblk m c 2 t) (iblk m c 3 t)) (RSof (iblk m c 0 t) (iblk m c 1 t) (iblk m c 2 t) (iblk m c 3 t)) (iblk m c 4 t) k r
      = amaxAt (kY m c) (rowAt t r) k := by
  unfold Aof amaxAt
  exact congrArg amaxOf (funext fun e => Y_blk m c t r _)

end

theorem final5 : (dats m 0 c).arrAt 5 cfg0.N = kNR m c := by
  refine (dats m 0 c).arrAt_eq_of_covers 5 _ (by decide +kernel) fun t hf y => ?_
  blk_simp
  rw [after_5]
  obtain ⟨r, l, rfl⟩ : ∃ r l, y = ix2 r l := ⟨_, _, eq_ix2 y⟩
  refine (NR_blk m c t r l).trans ?_
  unfold kNR
  refine congrArg₂ (kN m c) (Fin.ext ?_) (Fin.ext ?_)
  · unfold rowAt; blk_simp [idx5]; show 128 * t.val + r.val = t.val * 128 + r.val; omega
  · blk_simp [idx5]

theorem final6 : (dats m 0 c).arrAt 6 cfg0.N = kYC m c := by
  refine (dats m 0 c).arrAt_eq_of_covers 6 _ (by decide +kernel) fun t hf y => ?_
  blk_simp
  rw [after_6]
  obtain ⟨r, l, rfl⟩ : ∃ r l, y = ix2 r l := ⟨_, _, eq_ix2 y⟩
  have h : outYC (iblk m c 1 t) (iblk m c 0 t) (iblk m c 2 t) (iblk m c 3 t) (iblk m c 4 t) (ix2 r l)
      = codeAt (kY m c) (fun row k => ivOf (amaxAt (kY m c) row k)) (rowAt t r) l := by
    unfold outYC YCof codeAt
    exact congrArg clip (congrArg₂ _ (Y_blk m c t r l) (congrArg ivOf (A_blk m c t _ r)))
  refine h.trans ?_
  unfold kYC
  refine congrArg₂ (codeAt (kY m c) fun row k => ivOf (amaxAt (kY m c) row k)) (Fin.ext ?_) (Fin.ext ?_)
  · unfold rowAt; blk_simp [idx6]; show 128 * t.val + r.val = t.val * 128 + r.val; omega
  · blk_simp [idx6]

theorem final7 : (dats m 0 c).arrAt 7 cfg0.N = kYS m c := by
  refine (dats m 0 c).arrAt_eq_of_covers 7 _ (by decide +kernel) fun t hf y => ?_
  blk_simp
  rw [after_7]
  obtain ⟨z, k, r, rfl⟩ : ∃ z k r, y = ix3 z k r := ⟨_, _, _, eq_ix3 y⟩
  have h : outYS (iblk m c 1 t) (iblk m c 0 t) (iblk m c 2 t) (iblk m c 3 t) (iblk m c 4 t) (ix3 z k r)
      = ysOf (amaxAt (kY m c) (rowAt t r) k) := by
    unfold outYS YSof
    exact congrArg ysOf (A_blk m c t k r)
  refine h.trans ?_
  unfold kYS
  refine congrArg ysOf (congrArg₂ (amaxAt (kY m c)) (Fin.ext ?_) (Fin.ext ?_))
  · unfold rowAt flatRow
    blk_simp [idx7]
    show 128 * t.val + r.val = 1024 * (t.val / 8) + (t.val % 8 * 128 + r.val)
    omega
  · blk_simp [idx7]

/-- The kernel's run: the three results, the arguments unchanged. -/
theorem run_kernel : θ_run defs (onTc (τ := τ) (main (F := Ideal))) ⟨m, fun _ => 0, ρ⟩ (fun r => ∀ c : Dev nD,
      r.2.mem ((c.tc : Thread nD τ).loc main_v5_0) = kNR m c
      ∧ r.2.mem ((c.tc : Thread nD τ).loc main_v5_1) = kYC m c
      ∧ r.2.mem ((c.tc : Thread nD τ).loc main_v5_2) = kYS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final5 m c), ((h.1 c).1 6).trans (final6 m c), ((h.1 c).1 7).trans (final7 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_named m ρ)

end Cert.Hand
-- ==== Proof.RefArr.lean ====
/- The reference's three result arrays, in terms of the arguments. -/
module

public import proofs.«01_k».proof.Proof.RefPay
public import proofs.«01_k».proof.Proof.Gen.ReferenceIdeal.Value
public import Idealize.ShloMosaic.Lib.StableHlo.ReadAt
public import Idealize.ShloMosaic.Lib.Pipeline.ValueKit

@[expose] public section

set_option maxRecDepth 16384

noncomputable section

namespace Cert.HandRef

open Cert.Hand Idealize.ShloMosaic Idealize.ShloMosaic.TcCoe Idealize.ShloMosaic.Tactic
open Cert.ReferenceIdeal Cert.ReferenceIdeal.Gen Idealize.SL.Sem
open Idealize.ShloMosaic.Pipeline (Dat)

theorem ld0 (x : Vec Ideal S8x2048x7168 .fp8e4m3) : View.ld x r0_0 = x := funext fun y => congrArg x (funext fun a => Fin.ext (by
  match a with | ⟨0, _⟩ => exact (Nat.zero_add _).trans (Nat.one_mul _) | ⟨1, _⟩ => exact (Nat.zero_add _).trans (Nat.one_mul _) | ⟨2, _⟩ => exact (Nat.zero_add _).trans (Nat.one_mul _)))
theorem ld1 (x : Vec Ideal S8x2048x224 .f32) : View.ld x r0_1 = x := funext fun y => congrArg x (funext fun a => Fin.ext (by
  match a with | ⟨0, _⟩ => exact (Nat.zero_add _).trans (Nat.one_mul _) | ⟨1, _⟩ => exact (Nat.zero_add _).trans (Nat.one_mul _) | ⟨2, _⟩ => exact (Nat.zero_add _).trans (Nat.one_mul _)))
theorem ld2 (x : Vec Ideal S1x7168 .f32) : View.ld x r0_2 = x := funext fun y => congrArg x (funext fun a => Fin.ext (by
  match a with | ⟨0, _⟩ => exact (Nat.zero_add _).trans (Nat.one_mul _) | ⟨1, _⟩ => exact (Nat.zero_add _).trans (Nat.one_mul _)))
theorem ld3 (x : Vec Ideal S2048x7168 .bf16) : View.ld x r0_3 = x := funext fun y => congrArg x (funext fun a => Fin.ext (by
  match a with | ⟨0, _⟩ => exact (Nat.zero_add _).trans (Nat.one_mul _) | ⟨1, _⟩ => exact (Nat.zero_add _).trans (Nat.one_mul _)))

theorem canon_row {e : EltTy} (w : Vec Ideal S2048x7168 e) (hc : ∀ y, ∃ pc ∈ [(⟨r0_3, w⟩ : View.Piece (Elt Ideal) S2048x7168 e)], y ∈ pc.1.set) :
    View.canon [⟨r0_3, w⟩] = w := by
  refine funext fun y => View.canon_apply_of_pieces w _ ?_ y (hc y)
  intro pc hpc
  rcases List.mem_cons.mp hpc with rfl | hpc
  · exact fun x => congrArg w (funext fun a => Fin.ext (by
      match a with | ⟨0, _⟩ => exact ((Nat.zero_add _).trans (Nat.one_mul _)).symm | ⟨1, _⟩ => exact ((Nat.zero_add _).trans (Nat.one_mul _)).symm))
  nomatch hpc

theorem canon_scale (w : Vec Ideal S2x224x1024 .f32) (hc : ∀ y, ∃ pc ∈ [(⟨r0_4, w⟩ : View.Piece (Elt Ideal) S2x224x1024 .f32)], y ∈ pc.1.set) :
    View.canon [⟨r0_4, w⟩] = w := by
  refine funext fun y => View.canon_apply_of_pieces w _ ?_ y (hc y)
  intro pc hpc
  rcases List.mem_cons.mp hpc with rfl | hpc
  · exact fun x => congrArg w (funext fun a => Fin.ext (by
      match a with | ⟨0, _⟩ => exact ((Nat.zero_add _).trans (Nat.one_mul _)).symm | ⟨1, _⟩ => exact ((Nat.zero_add _).trans (Nat.one_mul _)).symm | ⟨2, _⟩ => exact ((Nat.zero_add _).trans (Nat.one_mul _)).symm))
  nomatch hpc

section
variable (x0 : Vec Ideal S8x2048x7168 .fp8e4m3) (x1 : Vec Ideal S8x2048x224 .f32) (x2 : Vec Ideal S1x7168 .f32) (x3 : Vec Ideal S2048x7168 .bf16) (x4 : Vec Ideal S1x7168 .f32)

theorem out5_eq : out0_5 x0 x1 x2 x3 x4 = k0_pay4 x0 x1 x2 x3 := by
  unfold out0_5
  rw [canon_row _ (cover0_5 _), ld0, ld1, ld2, ld3]

theorem out6_eq : out0_6 x0 x1 x2 x3 x4 = k0_pay2 (k0_pay5 x0 x1 x2 x3 x4) (k0_pay6 x0 x1 x2 x3 x4) (k0_pay7 x0 x1 x2 x3 x4) 126#32 := by
  unfold out0_6 k0_pay8
  rw [canon_row _ (cover0_6 _), ld0, ld1, ld2, ld3, ld2]

theorem out7_eq : out0_7 x0 x1 x2 x3 x4 = k0_pay3 (k0_pay6 x0 x1 x2 x3 x4) (k0_pay7 x0 x1 x2 x3 x4) 126#32 := by
  unfold out0_7 k0_pay8
  rw [canon_scale _ (cover0_7 _), ld0, ld1, ld2, ld3, ld2]

end

variable (m : (ℓ : Loc nD τ sig) → Buf (Elt Ideal) ℓ) (ρ : Dev nD → PrngReg) (c : Dev nD)

/-- The arguments by flat row. -/
def argP (d : Fin 8) (row : Fin 2048) (l : Fin 7168) : EReal :=
  m ((c.tc : Thread nD τ).loc main_arg0) (ix4 d ⟨row.val / 1024, by omega⟩ ⟨row.val % 1024, by omega⟩ l)
def argS (d : Fin 8) (row : Fin 2048) (k : Fin 224) : EReal :=
  m ((c.tc : Thread nD τ).loc main_arg1) (ix4 d ⟨row.val / 1024, by omega⟩ ⟨row.val % 1024, by omega⟩ k)
def argB (l : Fin 7168) : EReal := m ((c.tc : Thread nD τ).loc main_arg2) (ix1 l)
def argX (row : Fin 2048) (l : Fin 7168) : EReal :=
  m ((c.tc : Thread nD τ).loc main_arg3) (ix3 ⟨row.val / 1024, by omega⟩ ⟨row.val % 1024, by omega⟩ l)
def argG (l : Fin 7168) : EReal := m ((c.tc : Thread nD τ).loc main_arg4) (ix1 l)

theorem V0_at (d : Fin 8) (row : Fin 2048) (l : Fin 7168) : (V m c main_v0 (ix3 d row l) : EReal) = argP m c d row l := by
  unfold V argP
  after_reads_at

theorem V1_at (d : Fin 8) (row : Fin 2048) (k : Fin 224) : (V m c main_v1 (ix3 d row k) : EReal) = argS m c d row k := by
  unfold V argS
  after_reads_at

theorem V2_at (l : Fin 7168) : (V m c main_v2 (ix2 0 l) : EReal) = argB m c l := by
  unfold V argB
  after_reads_at

theorem V3_at (row : Fin 2048) (l : Fin 7168) : (V m c main_v3 (ix2 row l) : EReal) = argX m c row l := by
  unfold V argX
  after_reads_at

theorem V4_at (l : Fin 7168) : (V m c main_v4 (ix2 0 l) : EReal) = argG m c l := by
  unfold V argG
  after_reads_at

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)

section
variable (t : Fin cfg0.N)

theorem blk0_at (d : Fin 8) (r : Fin 2048) (l : Fin 7168) : (iblk m c 0 t (ix3 d r l) : EReal) = argP m c d r l := by
  rw [← V0_at]
  blk_simp [iblk]
  refine congrArg (V m c main_v0) ?_
  blk_ext [idx0]

theorem blk1_at (d : Fin 8) (r : Fin 2048) (k : Fin 224) : (iblk m c 1 t (ix3 d r k) : EReal) = argS m c d r k := by
  rw [← V1_at]
  blk_simp [iblk]
  refine congrArg (V m c main_v1) ?_
  blk_ext [idx1]

theorem blk2_at (l : Fin 7168) : (iblk m c 2 t (ix2 0 l) : EReal) = argB m c l := by
  rw [← V2_at]
  blk_simp [iblk]
  refine congrArg (V m c main_v2) ?_
  blk_ext [idx2]

theorem blk3_at (r : Fin 2048) (l : Fin 7168) : (iblk m c 3 t (ix2 r l) : EReal) = argX m c r l := by
  rw [← V3_at]
  blk_simp [iblk]
  refine congrArg (V m c main_v3) ?_
  blk_ext [idx3]

theorem blk4_at (l : Fin 7168) : (iblk m c 4 t (ix2 0 l) : EReal) = argG m c l := by
  rw [← V4_at]
  blk_simp [iblk]
  refine congrArg (V m c main_v4) ?_
  blk_ext [idx4]

end

/-- The new residual, the normalised row, and the three arrays. -/
def rN : Fin 2048 → Fin 7168 → EReal := nrAt (argP m c) (argS m c) (argB m c) (argX m c)
def rY : Fin 2048 → Fin 7168 → EReal := normed (rN m c) (rsMean (rN m c)) (argG m c)
def rNR : S2048x7168.Idx → EReal := fun y => rN m c (y 0) (y 1)
def rYC : S2048x7168.Idx → EReal := fun y => codeAt (rY m c) (fun row k => Ideal.exp2 (0 - expOf (amaxAt (rY m c) row k))) (y 0) (y 1)
def rYS : S2x224x1024.Idx → EReal := fun y =>
  Ideal.exp2 (expOf (amaxAt (rY m c) ⟨1024 * (y 0).val + (y 2).val, by
    have h0 : (y 0).val < 2 := (y 0).isLt
    have h2 : (y 2).val < 1024 := (y 2).isLt
    omega⟩ (y 1)))

section
variable (t : Fin cfg0.N)

theorem NR_blk (r : Fin 2048) (l : Fin 7168) : k0_pay4 (iblk m c 0 t) (iblk m c 1 t) (iblk m c 2 t) (iblk m c 3 t) (ix2 r l) = rN m c r l := by
  rw [ref_nr]
  unfold rN nrAt
  refine congrArg₂ _ (congrArg₂ _ (Finset.sum_congr rfl fun d _ => ?_) (blk2_at m c t l)) (blk3_at m c t r l)
  exact congrArg₂ _ (blk0_at m c t d r l) (blk1_at m c t d r _)

theorem Y_blk (r : Fin 2048) (k : Fin 224) (e : Fin 32) :
    k0_pay5 (iblk m c 0 t) (iblk m c 1 t) (iblk m c 2 t) (iblk m c 3 t) (iblk m c 4 t) (ix3 r k e) = rY m c r ⟨32 * k.val + e.val, by omega⟩ := by
  have hN : (fun (row : Fin 2048) (l : Fin 7168) => (k0_pay4 (iblk m c 0 t) (iblk m c 1 t) (iblk m c 2 t) (iblk m c 3 t) (ix2 row l) : EReal)) = rN m c :=
    funext fun r => funext fun l => NR_blk m c t r l
  have hG : (fun (l : Fin 7168) => (iblk m c 4 t (ix2 0 l) : EReal)) = argG m c := funext fun l => blk4_at m c t l
  rw [ref_y]
  unfold rY
  exact congrFun (congrFun (congrArg₂ (fun N G => normed N (rsMean N) G) hN hG) _) _

theorem A_blk (r : Fin 2048) (k : Fin 224) :
    k0_pay6 (iblk m c 0 t) (iblk m c 1 t) (iblk m c 2 t) (iblk m c 3 t) (iblk m c 4 t) (ix2 r k) = amaxAt (rY m c) r k := by
  rw [ref_amax]
  unfold amaxAt
  exact congrArg amaxOf (funext fun e => Y_blk m c t r k e)

end

theorem final5 : (dats m 0 c).arrAt 5 cfg0.N = rNR m c := by
  refine (dats m 0 c).arrAt_eq_of_covers 5 _ (by decide +kernel) fun t hf y => ?_
  blk_simp
  rw [after0_5, out5_eq]
  obtain ⟨r, l, rfl⟩ : ∃ r l, y = ix2 r l := ⟨_, _, eq_ix2 y⟩
  refine (NR_blk m c t r l).trans ?_
  unfold rNR
  refine congrArg₂ (rN m c) (Fin.ext ?_) (Fin.ext ?_)
  · blk_simp [idx5]
  · blk_simp [idx5]

theorem final6 : (dats m 0 c).arrAt 6 cfg0.N = rYC m c := by
  refine (dats m 0 c).arrAt_eq_of_covers 6 _ (by decide +kernel) fun t hf y => ?_
  blk_simp
  rw [after0_6, out6_eq]
  obtain ⟨r, l, rfl⟩ : ∃ r l, y = ix2 r l := ⟨_, _, eq_ix2 y⟩
  rw [ref_code, ref_exp, A_blk, Y_blk]
  unfold rYC codeAt
  have e : (⟨32 * (l.val / 32) + l.val % 32, by omega⟩ : Fin 7168) = l := Fin.ext (by show 32 * (l.val / 32) + l.val % 32 = l.val; omega)
  refine (congrArg (fun q => clip (rY m c r q * Ideal.exp2 (0 - expOf (amaxAt (rY m c) r ⟨l.val / 32, by omega⟩)))) e).trans ?_
  refine congrArg₂ (codeAt (rY m c) fun row k => Ideal.exp2 (0 - expOf (amaxAt (rY m c) row k))) (Fin.ext ?_) (Fin.ext ?_)
  · blk_simp [idx6]
  · blk_simp [idx6]

theorem final7 : (dats m 0 c).arrAt 7 cfg0.N = rYS m c := by
  refine (dats m 0 c).arrAt_eq_of_covers 7 _ (by decide +kernel) fun t hf y => ?_
  blk_simp
  rw [after0_7, out7_eq]
  obtain ⟨b, k, s, rfl⟩ : ∃ b k s, y = ix3 b k s := ⟨_, _, _, eq_ix3 y⟩
  rw [ref_scale, ref_exp, A_blk]
  unfold rYS
  refine congrArg (fun v => Ideal.exp2 (expOf v)) (congrArg₂ (amaxAt (rY m c)) (Fin.ext ?_) (Fin.ext ?_))
  · blk_simp [idx7]
  · blk_simp [idx7]

end Cert.HandRef
-- ==== Proof.Join.lean ====
/- The two programs' result arrays are equal on equal arguments the precondition admits. -/
module

public import proofs.«01_k».proof.Proof.Pre
public import proofs.«01_k».proof.Proof.KernelArr
public import proofs.«01_k».proof.Proof.RefArr

@[expose] public section

set_option maxRecDepth 16384

noncomputable section

namespace Cert.Hand

open Idealize.ShloMosaic Idealize.ShloMosaic.TcCoe Idealize.ShloMosaic.Tactic
open Idealize.SL.Sem

/-- The two group scales and the codes agree on rows whose scales are powers and whose gains are finite. -/
theorem groups_eq (N : Fin 2048 → Fin 7168 → EReal) (G : Fin 7168 → EReal) (hG : ∀ l, Finite (G l)) (row : Fin 2048) (k : Fin 224) :
    ysOf (amaxAt (normed N (rsLanes N) G) row k) = Ideal.exp2 (expOf (amaxAt (normed N (rsMean N) G) row k))
      ∧ ivOf (amaxAt (normed N (rsLanes N) G) row k) = Ideal.exp2 (0 - expOf (amaxAt (normed N (rsMean N) G) row k)) := by
  have hr : rsLanes N = rsMean N := funext (rs_eq N)
  rw [hr]
  have hb := amax_bound (fun e : Fin 32 => normed N (rsMean N) G row ⟨32 * k.val + e.val, by omega⟩) fun i => normed_bound N G hG row _
  exact scale_eq hb.1 hb.2

theorem snap_eq (S : Fin 8 → Fin 2048 → Fin 224 → EReal) (h : ∀ d row k, ∃ n, n ≤ 255 ∧ S d row k = Pw n) : snap S = S := by
  funext d row k
  obtain ⟨n, hn, e⟩ := h d row k
  unfold snap
  rw [e, bexp_Pw hn]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments are equal. -/
structure Agree : Prop where
  p : Cert.HandRef.argP m' c = argP m c
  s : Cert.HandRef.argS m' c = argS m c
  b : Cert.HandRef.argB m' c = argB m c
  x : Cert.HandRef.argX m' c = argX m c
  g : Cert.HandRef.argG m' c = argG m c

variable {m m' c} (A : Agree m m' c) (hS : ∀ d row k, ∃ n, n ≤ 255 ∧ argS m c d row k = Pw n) (hG : ∀ l, Finite (argG m c l))
include A hS

theorem n_eq : Cert.HandRef.rN m' c = kN m c := by
  unfold Cert.HandRef.rN kN
  rw [snap_eq _ hS, A.p, A.s, A.b, A.x]

theorem nr_eq : Cert.HandRef.rNR m' c = kNR m c := by
  unfold Cert.HandRef.rNR kNR
  rw [n_eq A hS]

theorem y_eq : Cert.HandRef.rY m' c = kY m c := by
  unfold Cert.HandRef.rY kY
  rw [n_eq A hS, A.g, show rsLanes (kN m c) = rsMean (kN m c) from funext (rs_eq _)]

include hG

theorem ys_eq : Cert.HandRef.rYS m' c = kYS m c := by
  unfold Cert.HandRef.rYS kYS
  rw [y_eq A hS]
  funext y
  have h := (groups_eq (kN m c) (argG m c) hG (flatRow (y 0) (y 2)) (y 1)).1
  unfold kY
  rw [h, show rsLanes (kN m c) = rsMean (kN m c) from funext (rs_eq _)]
  rfl

theorem yc_eq : Cert.HandRef.rYC m' c = kYC m c := by
  unfold Cert.HandRef.rYC kYC
  rw [y_eq A hS]
  have h : (fun row k => Ideal.exp2 (0 - expOf (amaxAt (kY m c) row k))) = fun row k => ivOf (amaxAt (kY m c) row k) := by
    funext row k
    have h := (groups_eq (kN m c) (argG m c) hG row k).2
    rw [show kY m c = normed (kN m c) (rsLanes (kN m c)) (argG m c) from rfl, h,
      show rsLanes (kN m c) = rsMean (kN m c) from funext (rs_eq _)]
  rw [h]

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_representable
public import proofs.«01_k».proof.Proof.KFrame
public import proofs.«01_k».proof.Proof.KFrame
public import proofs.«01_k».proof.Proof.Join
public import Idealize.ShloMosaic.Adequacy
public import Idealize.ShloMosaic.Init

@[expose] public section

noncomputable section

namespace Cert.Proof

open Idealize.ShloMosaic Idealize.SL.Sem Cert.Kernel

/-- The value claim: both programs end with the kernel's closed form in their results. -/
theorem value : Cert.algebraic_KernelIdeal_ReferenceIdeal_pre_representable (hKernelIdeal := Cert.KernelIdeal.Gen.facts)
    (hReferenceIdeal := Cert.ReferenceIdeal.Gen.facts) (hPre_representable := Cert.Pre_representable.Gen.facts) := by
  intro m g m' g' hp ha
  have hS : ∀ c d row k, ∃ n, n ≤ 255 ∧ Cert.Hand.argS m c d row k = Cert.Hand.Pw n := fun c d row k =>
    letI := Cert.Pre_representable.Gen.facts
    Cert.Hand.scale_pw _ _ _ _ _ (hp c).1 _
  have hG : ∀ c l, Cert.Hand.Finite (Cert.Hand.argG m c l) := fun c l =>
    letI := Cert.Pre_representable.Gen.facts
    Cert.Hand.gain_finite _ _ _ _ _ (hp c).2 _
  have A : ∀ c, Cert.Hand.Agree m m' c := fun c => by
    obtain ⟨h0, h1, h2, h3, h4⟩ := ha c
    exact ⟨funext fun d => funext fun row => funext fun l => congrFun h0 _, funext fun d => funext fun row => funext fun k => congrFun h1 _,
      funext fun l => congrFun h2 _, funext fun row => funext fun l => congrFun h3 _, funext fun l => congrFun h4 _⟩
  refine ⟨fun c => Cert.Hand.kNR m c, fun c => Cert.Hand.kYC m c, fun c => Cert.Hand.kYS m c, Cert.Hand.run_kernel m g, ?_⟩
  refine (θ_run Cert.ReferenceIdeal.defs _ _).mono (fun r h c => ?_) (Cert.ReferenceIdeal.Value.run_blocks (F := Ideal) m' g')
  obtain ⟨h5, h6, h7, h⟩ := h c
  exact ⟨h5.trans ((Cert.HandRef.final5 m' c).trans (Cert.Hand.nr_eq (A c) (hS c))),
    h6.trans ((Cert.HandRef.final6 m' c).trans (Cert.Hand.yc_eq (A c) (hS c) (hG c))),
    h7.trans ((Cert.HandRef.final7 m' c).trans (Cert.Hand.ys_eq (A c) (hS c) (hG c))), h⟩

theorem claim : Cert.Claim := ⟨Cert.Kernel.Gen.facts, Cert.KernelIdeal.Gen.facts, Cert.ReferenceIdeal.Gen.facts, Cert.Pre_representable.Gen.facts,
  fun m ρ _ => Cert.Kernel.Hand.frame m ρ, fun m ρ _ => Cert.Hand.frame_ideal m ρ, fun m ρ _ => Cert.Hand.frame_ideal m ρ,
  fun m ρ _ => Cert.ReferenceIdeal.Gen.frame m ρ, fun m ρ _ => Cert.ReferenceIdeal.Gen.frame m ρ,
  IdealRules.named_const.statement Cert.KernelIdeal.κ "inv_d" .f32 0x39124925#32 ((1 / 7168 : ℝ) : EReal) rfl, value⟩

end Cert.Proof

end
